-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x256x32x32 : Shape := ⟨4, ![16, 256, 32, 32]⟩
abbrev S1024x256 : Shape := ⟨2, ![1024, 256]⟩
abbrev S_ : Shape := ⟨0, ![]⟩

class Facts : Prop where
  bcast_S_S16x256x32x32 : S_.BroadcastsInDim S16x256x32x32 (![] : Fin 0 → Fin S16x256x32x32.rank)
  reducesTo_S16x256x32x32_S_d0_1_2_3 : S16x256x32x32.ReducesTo [0, 1, 2, 3] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16x256x32x32 .f32) (main_arg1 : FVec F S1024x256 .f32) : IVec S_ 1 :=
  let main_v0 : FVec F S16x256x32x32 .f32 := Host.absf main_arg0
  let main_cst : FVec F S_ .f32 := constant S_ .f32 0x7F800000#32
  let main_v1 : FVec F S16x256x32x32 .f32 := broadcastInDim S16x256x32x32 ![] bcast_S_S16x256x32x32 main_cst
  let main_v2 : IVec S16x256x32x32 1 := cmpf .olt main_v0 main_v1
  let main_c : IVec S_ 1 := constantI S_ 1 1#1
  let main_v3 : IVec S_ 1 := (fun x v => Host.reduce IntOp.andi x v reducesTo_S16x256x32x32_S_d0_1_2_3 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S16x256x32x32 : Shape := ⟨4, ![16, 256, 32, 32]⟩
abbrev S1024x256 : Shape := ⟨2, ![1024, 256]⟩
abbrev S16x256x1024 : Shape := ⟨3, ![16, 256, 1024]⟩
abbrev S16x1x1024 : Shape := ⟨3, ![16, 1, 1024]⟩
abbrev S8x128 : Shape := ⟨2, ![8, 128]⟩
abbrev S1x256x1024 : Shape := ⟨3, ![1, 256, 1024]⟩
abbrev S1x1x1024 : Shape := ⟨3, ![1, 1, 1024]⟩
abbrev S1024x1 : Shape := ⟨2, ![1024, 1]⟩
abbrev S2x128 : Shape := ⟨2, ![2, 128]⟩
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S1x128 : Shape := ⟨2, ![1, 128]⟩
abbrev S128 : Shape := ⟨1, ![128]⟩
abbrev S1 : Shape := ⟨1, ![1]⟩
abbrev S1x1 : Shape := ⟨2, ![1, 1]⟩
abbrev S1x1024x1024 : Shape := ⟨3, ![1, 1024, 1024]⟩
abbrev S1x1x1 : Shape := ⟨3, ![1, 1, 1]⟩
abbrev S1x1024x1 : Shape := ⟨3, ![1, 1024, 1]⟩
abbrev S_ : Shape := ⟨0, ![]⟩
abbrev S16384x1 : Shape := ⟨2, ![16384, 1]⟩

abbrev nBuf : Space → Nat
  | .hbm => 16
  | .vmem => 12
  | .smem => 0
  | _ => 0

abbrev bufTy : (tb : Table) → Fin (tcTables nBuf tb) → BufTy
  | .hbm, ⟨0, _⟩ => ⟨S16x256x32x32, .f32⟩
  | .hbm, ⟨1, _⟩ => ⟨S1024x256, .f32⟩
  | .hbm, ⟨2, _⟩ => ⟨S16x256x1024, .f32⟩
  | .hbm, ⟨3, _⟩ => ⟨S16x256x1024, .f32⟩
  | .hbm, ⟨4, _⟩ => ⟨S16x1x1024, .i32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S16x256x32x32, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S16384x1, .i32⟩
  | .hbm, ⟨14, _⟩ => ⟨S1x1, .f32⟩
  | .hbm, ⟨15, _⟩ => ⟨S_, .f32⟩
  | .local _ .vmem, ⟨0, _⟩ => ⟨S1x256x1024, .f32⟩
  | .local _ .vmem, ⟨1, _⟩ => ⟨S1x256x1024, .f32⟩
  | .local _ .vmem, ⟨2, _⟩ => ⟨S1024x256, .f32⟩
  | .local _ .vmem, ⟨3, _⟩ => ⟨S1x256x1024, .f32⟩
  | .local _ .vmem, ⟨4, _⟩ => ⟨S1x256x1024, .f32⟩
  | .local _ .vmem, ⟨5, _⟩ => ⟨S1x1x1024, .i32⟩
  | .local _ .vmem, ⟨6, _⟩ => ⟨S1x1x1024, .i32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S1024x1, .f32⟩
  | .local _ .vmem, ⟨11, _⟩ => ⟨S2x128, .f32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v68 : BitVec 1 := Scalar.cmpi .eq arg0 c15_i32
  let v69 : BitVec 32 := Scalar.extui v68
  let c0_i32_31 : BitVec 32 := 0#32
  let v70 : BitVec 1 := Scalar.cmpi .ne v69 c0_i32_31
  v70

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x256x32x32 : Shape := ⟨4, ![16, 256, 32, 32]⟩
abbrev S1024x256 : Shape := ⟨2, ![1024, 256]⟩
abbrev S16x32x32x256 : Shape := ⟨4, ![16, 32, 32, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩
abbrev S16384x2 : Shape := ⟨2, ![16384, 2]⟩

abbrev nBuf : Space → Nat
  | .hbm => 87
  | .vmem => 0
  | .smem => 0
  | _ => 0

abbrev bufTy : (tb : Table) → Fin (tcTables nBuf tb) → BufTy
  | .hbm, ⟨0, _⟩ => ⟨S16x256x32x32, .f32⟩
  | .hbm, ⟨1, _⟩ => ⟨S1024x256, .f32⟩
  | .hbm, ⟨2, _⟩ => ⟨S16x32x32x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S256x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x1, .i32⟩
  | .hbm, ⟨27, _⟩ => ⟨S_, .f32⟩
  | .hbm, ⟨28, _⟩ => ⟨S16384x1024, .f32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S16384x1, .i32⟩
  | .hbm, ⟨47, _⟩ => ⟨S16384x2, .i32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x256, .f32⟩
  | .hbm, ⟨52, _⟩ => ⟨S16x32x32x256, .f32⟩
  | .hbm, ⟨53, _⟩ => ⟨S16x32x32x256, .f32⟩
  | .hbm, ⟨54, _⟩ => ⟨S16x32x32x256, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S16x32x32x256, .f32⟩
  | .hbm, ⟨60, _⟩ => ⟨S16x32x32x256, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1024, .f32⟩
  | .hbm, ⟨70, _⟩ => ⟨S_, .f32⟩
  | .hbm, ⟨71, _⟩ => ⟨S1024, .f32⟩
  | .hbm, ⟨72, _⟩ => ⟨S1024, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S1024, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S16x256x32x32, .f32⟩
  | _, _ => ⟨S16x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_15 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_16 : Ref sig .tc := ⟨.hbm, 82, rfl⟩
abbrev main_v58 : Ref sig .tc := ⟨.hbm, 83, rfl⟩
abbrev main_cst_17 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== Proof.RefRun.lean ====
module

public import proofs.«01_k».proof.Defs
public import proofs.«01_k».proof.Proof.Gen.ReferenceIdeal
public import Idealize.ShloMosaic.Lib.StableHlo.RunHlo
public import Idealize.ShloMosaic.Lib.Claim
public import Idealize.ShloMosaic.Lib.Quiescent

/-!
The run of the reference over the extended reals: its results as named terms of its two arguments.
-/

@[expose] public section

set_option maxRecDepth 16384

noncomputable section

namespace Cert.Proof.Ref

open Cert.ReferenceIdeal Cert.ReferenceIdeal.Gen
open Idealize.ShloMosaic Idealize.ShloMosaic.TcCoe Idealize.SL.Sem

/-- The activations as 16384 rows of 256 channels. -/
def rows (z : FVec Ideal S16x256x32x32 .f32) : FVec Ideal S16384x256 .f32 :=
  shapeCast S16384x256 (transpose S16x32x32x256 [0, 2, 3, 1] z transposes_S16x256x32x32_S16x32x32x256_0_2_3_1)
    shapeCasts_S16x32x32x256_S16384x256

/-- The squared distance of every row to every code. -/
def dist (z : FVec Ideal S16x256x32x32 .f32) (w : FVec Ideal S1024x256 .f32) : FVec Ideal S16384x1024 .f32 :=
  subf
    (addf
      (broadcastInDim S16384x1024 ![0, 1] bcast_S16384x1_S16384x1024_0_1
        (broadcastInDim S16384x1 ![0] bcast_S16384_S16384x1_0
          (Host.reduceAdd (mulf (rows z) (rows z)) (constant S_ .f32 0x00000000#32) reducesTo_S16384x256_S16384_d1 h_S_)))
      (broadcastInDim S16384x1024 ![0, 1] bcast_S1x1024_S16384x1024_0_1
        (broadcastInDim S1x1024 ![1] bcast_S1024_S1x1024_1
          (Host.reduceAdd (mulf w w) (constant S_ .f32 0x00000000#32) reducesTo_S1024x256_S1024_d1 h_S_))))
    (mulf (broadcastInDim S16384x1024 ![] bcast_S_S16384x1024 (constant S_ .f32 0x40000000#32))
      (Host.dotGeneral dot_S16384x256_S256x1024_S16384x1024_1_0_0_1_n_n none (rows z)
        (transpose S256x1024 [1, 0] w transposes_S1024x256_S256x1024_1_0)))

/-- The nearest code of every row, from the distances. -/
def near (d : FVec Ideal S16384x1024 .f32) : IVec S16384 32 := fun j =>
  (Host.argReduce reducer_argmin_f32_i32 d (iotaInDim S16384x1024 32 1) (constant S_ .f32 0x7F800000#32)
    (constantI S_ 32 0#32) reducesTo_S16384x1024_S16384_d1 h_S_ j).2

/-- The indices as a column. -/
def col (n : IVec S16384 32) : IVec S16384x1 32 := broadcastInDim S16384x1 ![0] bcast_S16384_S16384x1_0 n

/-- A vector of indices into an axis of `e` entries, the negative ones moved up by `e`. -/
def wrap (e : BitVec 32) (n : IVec S16384 32) : IVec S16384 32 :=
  select (cmpi .slt n (broadcastInDim S16384 ![] bcast_S_S16384 (constantI S_ 32 0#32)))
    (addi n (broadcastInDim S16384 ![] bcast_S_S16384 (constantI S_ 32 e))) n

/-- The positions (row, nearest code) that the one-hot matrix sets. -/
def pairs (n : IVec S16384 32) : IVec S16384x2 32 :=
  concatenate S16384x2 1
    [⟨S16384x1, col (wrap 16384#32 (iotaInDim S16384 32 0))⟩,
      ⟨S16384x1, col (wrap 1024#32 (shapeCast S16384 (col n) shapeCasts_S16384x1_S16384))⟩]
    concatenates_S16384x1_S16384x1_S16384x2_d1

/-- The one-hot matrix of the nearest codes. -/
def hot (n : IVec S16384 32) : FVec Ideal S16384x1024 .f32 :=
  Host.scatter scatter_S16384x1024_S16384x2_S16384_n_01_01_1 (fun _ b => b)
    (broadcastInDim S16384x1024 ![] bcast_S_S16384x1024 (constant (F := Ideal) S_ .f32 0x00000000#32)) (pairs n)
    (broadcastInDim S16384 ![] bcast_S_S16384 (constant (F := Ideal) S_ .f32 0x3F800000#32))

/-- The selected codes in the layout (batch, row, column, channel). -/
def sel (h : FVec Ideal S16384x1024 .f32) (w : FVec Ideal S1024x256 .f32) : FVec Ideal S16x32x32x256 .f32 :=
  shapeCast S16x32x32x256 (Host.dotGeneral dot_S16384x1024_S1024x256_S16384x256_1_0_0_1_n_n none h w)
    shapeCasts_S16384x256_S16x32x32x256

/-- The selected codes in the layout of the activations. -/
def outQ (q : FVec Ideal S16x32x32x256 .f32) : FVec Ideal S16x256x32x32 .f32 :=
  transpose S16x256x32x32 [0, 3, 1, 2] q transposes_S16x32x32x256_S16x256x32x32_0_3_1_2

/-- The mean squared difference of the selected codes and the activations. -/
def mse (q : FVec Ideal S16x32x32x256 .f32) (z : FVec Ideal S16x256x32x32 .f32) : FVec Ideal S_ .f32 :=
  Host.divf
    (Host.reduceAdd
      (mulf (subf q (transpose S16x32x32x256 [0, 2, 3, 1] z transposes_S16x256x32x32_S16x32x32x256_0_2_3_1))
        (subf q (transpose S16x32x32x256 [0, 2, 3, 1] z transposes_S16x256x32x32_S16x32x32x256_0_2_3_1)))
      (constant S_ .f32 0x00000000#32) reducesTo_S16x32x32x256_S_d0_1_2_3 h_S_)
    (constant S_ .f32 0x4A800000#32)

/-- The loss: the codebook term plus a quarter of the commitment term. -/
def loss (q : FVec Ideal S16x32x32x256 .f32) (z : FVec Ideal S16x256x32x32 .f32) : FVec Ideal S_ .f32 :=
  addf (mse q z) (mulf (constant S_ .f32 0x3E800000#32) (mse q z))

/-- How often each code is selected, as a share of the rows. -/
def share (h : FVec Ideal S16384x1024 .f32) : FVec Ideal S1024 .f32 :=
  Host.divf (Host.reduceAdd h (constant S_ .f32 0x00000000#32) reducesTo_S16384x1024_S1024_d0 h_S_)
    (broadcastInDim S1024 ![] bcast_S_S1024 (constant S_ .f32 0x46800000#32))

/-- The perplexity of the shares. -/
def perp (e : FVec Ideal S1024 .f32) : FVec Ideal S_ .f32 :=
  Host.exp (Host.negf (Host.reduceAdd
    (mulf e (Host.log (addf e (broadcastInDim S1024 ![] bcast_S_S1024 (constant S_ .f32 0x2EDBE6FF#32)))))
    (constant S_ .f32 0x00000000#32) reducesTo_S1024_S_d0 h_S_))

/-- The mean distance. -/
def meanDist (d : FVec Ideal S16384x1024 .f32) : FVec Ideal S_ .f32 :=
  Host.divf (Host.reduceAdd d (constant S_ .f32 0x00000000#32) reducesTo_S16384x1024_S_d0_1 h_S_)
    (constant S_ .f32 0x4B800000#32)

/-- The reference terminates from any memory with zero counters, leaves its arguments and the counters as they were,
    and its five results are the named terms. -/
theorem run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v60)
          = outQ (sel (hot (near (dist (m ((c.tc : Thread nD τ).loc main_arg0)) (m ((c.tc : Thread nD τ).loc main_arg1)))))
              (m ((c.tc : Thread nD τ).loc main_arg1)))
        ∧ r.2.mem ((c.tc : Thread nD τ).loc main_v47)
          = loss (sel (hot (near (dist (m ((c.tc : Thread nD τ).loc main_arg0)) (m ((c.tc : Thread nD τ).loc main_arg1)))))
              (m ((c.tc : Thread nD τ).loc main_arg1))) (m ((c.tc : Thread nD τ).loc main_arg0))
        ∧ r.2.mem ((c.tc : Thread nD τ).loc main_v57)
          = perp (share (hot (near (dist (m ((c.tc : Thread nD τ).loc main_arg0)) (m ((c.tc : Thread nD τ).loc main_arg1))))))
        ∧ r.2.mem ((c.tc : Thread nD τ).loc main_v17)
          = col (near (dist (m ((c.tc : Thread nD τ).loc main_arg0)) (m ((c.tc : Thread nD τ).loc main_arg1))))
        ∧ r.2.mem ((c.tc : Thread nD τ).loc main_v59)
          = meanDist (dist (m ((c.tc : Thread nD τ).loc main_arg0)) (m ((c.tc : Thread nD τ).loc main_arg1))) := by
  hlo_run
  all_goals rfl

/-- No semaphore is declared by the reference. -/
theorem sem_zero (s : MemSt nD τ sig (Elt Ideal)) : s.sem = fun _ => 0 := sem_eq_zero_of_no_sems rfl s

/-- The reference leaves its arguments unchanged and every counter at zero. -/
theorem frame (m : (ℓ : Loc nD τ sig) → Buf (Elt Ideal) ℓ) (g : Dev nD → PrngReg) :
    θ_run defs (onTc (τ := τ) (main (F := Ideal))) ⟨m, fun _ => 0, g⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0 :=
  θ_run_mono (run m g) fun r h => ⟨fun c => ⟨(h c).1, (h c).2.1⟩, sem_zero r.2⟩

end Cert.Proof.Ref
end
-- ==== Proof.Math.lean ====
module

public import Idealize.ShloMosaic.PureOps
public import Idealize.ShloMosaic.PureOps.Reduce
public import Idealize.ShloMosaic.PureOps.Ideal.Laws
public import Idealize.ShloMosaic.Lib.Pointwise

/-!
The mathematics of the nearest-code search over the extended reals: the first index at which a family is least,
what folds by minimum and lexicographic folds make of it, the squared distance as a sum of squares, and the
scalings by powers of two.
-/

@[expose] public section

set_option maxRecDepth 16384

noncomputable section

namespace Cert.Proof

open Idealize.ShloMosaic

/-! ## The first least index -/

/-- `k` is the first index at which `d` is least. -/
def IsFirst (d : Fin 1024 → EReal) (k : Fin 1024) : Prop := (∀ j, d k ≤ d j) ∧ ∀ j, j < k → d k < d j

/-- Every family has a first least index. -/
theorem exists_first (d : Fin 1024 → EReal) : ∃ k, IsFirst d k := by
  obtain ⟨k₀, -, h₀⟩ := Finset.exists_min_image Finset.univ d ⟨0, Finset.mem_univ _⟩
  let S : Finset (Fin 1024) := Finset.univ.filter fun j => d j ≤ d k₀
  have hS : S.Nonempty := ⟨k₀, Finset.mem_filter.2 ⟨Finset.mem_univ _, le_rfl⟩⟩
  have hm := Finset.mem_filter.1 (S.min'_mem hS)
  refine ⟨S.min' hS, fun j => hm.2.trans (h₀ j (Finset.mem_univ _)), fun j hj => ?_⟩
  by_contra hn
  have hjS : j ∈ S := Finset.mem_filter.2 ⟨Finset.mem_univ _, (not_lt.1 hn).trans hm.2⟩
  exact absurd (S.min'_le j hjS) (not_le.2 hj)

/-- The first least index of a family. -/
def first (d : Fin 1024 → EReal) : Fin 1024 := Classical.choose (exists_first d)

/-- It is one. -/
theorem first_spec (d : Fin 1024 → EReal) : IsFirst d (first d) := Classical.choose_spec (exists_first d)

/-- There is no other. -/
theorem first_unique {d : Fin 1024 → EReal} {k : Fin 1024} (h : IsFirst d k) : k = first d := by
  have h' := first_spec d
  rcases lt_trichotomy k (first d) with hlt | heq | hgt
  · exact absurd (h'.2 k hlt) (not_lt.2 (h.1 _))
  · exact heq
  · exact absurd (h.2 _ hgt) (not_lt.2 (h'.1 _))

/-- The least value, folded from infinity. -/
theorem fold_min_eq (d : Fin 1024 → EReal) : Finset.univ.fold min ⊤ d = d (first d) := by
  refine le_antisymm (Finset.fold_min_le _ |>.2 (.inr ⟨first d, Finset.mem_univ _, le_rfl⟩))
    ((Finset.le_fold_min _).2 ⟨le_top, fun j _ => (first_spec d).1 j⟩)

/-- The word of an index below 1024, read signed, is the index. -/
theorem toInt_index (k : Fin 1024) : (BitVec.ofNat 32 k.val).toInt = (k.val : Int) := by
  have := k.isLt
  have hn : (BitVec.ofNat 32 k.val).toNat = k.val := by
    rw [BitVec.toNat_ofNat]; exact Nat.mod_eq_of_lt (by omega)
  rw [BitVec.toInt_eq_toNat_of_lt (by rw [hn]; omega), hn]

/-- The signed minimum of two words, read signed, is the minimum of the two. -/
theorem toInt_minsi (a b : BitVec 32) : (IntOp.minsi a b).toInt = min a.toInt b.toInt := by
  simp only [IntOp.minsi, BitVec.slt, decide_eq_true_eq]
  split_ifs with h
  · exact (min_eq_left h.le).symm
  · exact (min_eq_right (not_lt.1 h)).symm

/-- The index word folded by the signed minimum, over the positions at which `d` takes its least value. -/
theorem fold_minsi_eq (d : Fin 1024 → EReal) (μ : EReal) (hμ : μ = d (first d)) :
    Finset.univ.fold IntOp.minsi 2147483647#32 (fun k : Fin 1024 => if d k = μ then BitVec.ofNat 32 k.val else 1024#32)
      = BitVec.ofNat 32 (first d).val := by
  subst hμ
  apply BitVec.eq_of_toInt_eq
  rw [← Finset.fold_hom (op := IntOp.minsi) (op' := min) (m := BitVec.toInt) toInt_minsi, toInt_index]
  have hle : ∀ j, ((first d).val : Int) ≤ ((if d j = d (first d) then BitVec.ofNat 32 j.val else 1024#32 : BitVec 32)).toInt := by
    intro j
    split_ifs with h
    · rw [toInt_index]
      by_contra hn
      have hlt : j < first d := by have := not_le.1 hn; exact Fin.lt_def.2 (by omega)
      exact absurd ((first_spec d).2 j hlt) (by rw [h]; exact lt_irrefl _)
    · have := (first d).isLt
      have e : ((1024#32 : BitVec 32)).toInt = 1024 := by decide
      rw [e]; omega
  refine le_antisymm (Finset.fold_min_le _ |>.2 (.inr ⟨first d, Finset.mem_univ _, ?_⟩))
    ((Finset.le_fold_min _).2 ⟨?_, fun j _ => hle j⟩)
  · rw [if_pos rfl, toInt_index]
  · have := (first d).isLt
    have e : ((2147483647#32 : BitVec 32)).toInt = 2147483647 := by decide
    rw [e]; omega

/-! ## The lexicographic fold -/

/-- The order of (value, word) pairs: by value, then by the word read signed. -/
def Lex (a b : EReal × BitVec 32) : Prop := a.1 < b.1 ∨ a.1 = b.1 ∧ a.2.toInt < b.2.toInt

/-- A fold that keeps the lexicographically smaller pair ends in one of its pairs, and none is below it. -/
theorem foldl_lex (f : EReal × BitVec 32 → EReal × BitVec 32 → EReal × BitVec 32)
    (hf : ∀ a b, (Lex a b → f a b = a) ∧ (¬ Lex a b → f a b = b)) :
    ∀ (l : List (EReal × BitVec 32)) (a : EReal × BitVec 32),
      l.foldl f a ∈ a :: l ∧ ∀ b ∈ a :: l, ¬ Lex b (l.foldl f a)
  | [], a => ⟨List.mem_singleton.2 rfl, fun b hb => by
      rw [List.mem_singleton.1 hb]
      rintro (h | ⟨-, h⟩) <;> exact lt_irrefl _ h⟩
  | x :: l, a => by
    have ih := foldl_lex f hf l (f a x)
    rw [List.foldl_cons]
    have trans : ∀ p q r : EReal × BitVec 32, ¬ Lex q p → ¬ Lex r q → ¬ Lex r p := by
      intro p q r h1 h2 h3
      simp only [Lex, not_or, not_and, not_lt] at h1 h2
      rcases h3 with h3 | ⟨h3, h4⟩
      · exact absurd (h1.1.trans h2.1) (not_le.2 h3)
      · have e1 : q.1 = p.1 := le_antisymm (h3 ▸ h2.1) h1.1
        have e2 : r.1 = q.1 := h3.trans e1.symm
        exact absurd (h2.2 e2) (not_le.2 (lt_of_lt_of_le h4 (h1.2 e1)))
    have asym : ∀ p q : EReal × BitVec 32, Lex p q → ¬ Lex q p := by
      rintro p q (h | ⟨h, h'⟩) (g | ⟨g, g'⟩)
      · exact lt_asymm h g
      · exact absurd h (g ▸ lt_irrefl _)
      · exact absurd g (h ▸ lt_irrefl _)
      · exact lt_asymm h' g'
    by_cases h : Lex a x
    · rw [(hf a x).1 h] at ih ⊢
      refine ⟨?_, fun b hb => ?_⟩
      · rcases List.mem_cons.1 ih.1 with e | e
        · rw [e]; exact List.mem_cons_self
        · exact List.mem_cons_of_mem _ (List.mem_cons_of_mem _ e)
      · rcases List.mem_cons.1 hb with rfl | hb
        · exact ih.2 _ List.mem_cons_self
        · rcases List.mem_cons.1 hb with rfl | hb
          · exact trans _ _ _ (ih.2 _ List.mem_cons_self) (asym _ _ h)
          · exact ih.2 _ (List.mem_cons_of_mem _ hb)
    · rw [(hf a x).2 h] at ih ⊢
      refine ⟨List.mem_cons_of_mem _ ih.1, fun b hb => ?_⟩
      rcases List.mem_cons.1 hb with rfl | hb
      · exact trans _ _ _ (ih.2 _ List.mem_cons_self) h
      · exact ih.2 _ hb

/-- The word of a pair that is in the family (or the start, infinity with the word zero) and below which no pair of the
    family lies is the first least index. -/
theorem lex_least_eq (d : Fin 1024 → EReal) (p : EReal × BitVec 32)
    (hp : p = (⊤, 0#32) ∨ ∃ k : Fin 1024, p = (d k, BitVec.ofNat 32 k.val))
    (hle : ∀ k : Fin 1024, ¬ Lex (d k, BitVec.ofNat 32 k.val) p) : p.2 = BitVec.ofNat 32 (first d).val := by
  rcases hp with rfl | ⟨k, rfl⟩
  · have h0 : IsFirst d 0 := by
      refine ⟨fun j => ?_, fun j hj => absurd hj (Fin.not_lt_zero j)⟩
      have := hle j
      simp only [Lex, not_or, not_lt, top_le_iff] at this
      rw [this.1]; exact le_top
    rw [← first_unique h0]; rfl
  · have hk : IsFirst d k := by
      have hh : ∀ j, d k ≤ d j ∧ (d j = d k → k ≤ j) := fun j => by
        have := hle j
        simp only [Lex, not_or, not_and, not_lt, toInt_index] at this
        exact ⟨this.1, fun e => Fin.le_def.2 (by have := this.2 e; omega)⟩
      refine ⟨fun j => (hh j).1, fun j hj => lt_of_le_of_ne (hh j).1 fun e => ?_⟩
      exact absurd ((hh j).2 e.symm) (not_le.2 hj)
    rw [← first_unique hk]

/-! ## One-hot rows -/

/-- A one-hot weighted sum is the selected entry. -/
theorem sum_hot {n : Nat} (k : Fin n) (g : Fin n → EReal) : ∑ j, (if j = k then (1 : EReal) else 0) * g j = g k := by
  rw [Finset.sum_eq_single k (fun j _ hj => by rw [if_neg hj, zero_mul]) fun h => absurd (Finset.mem_univ _) h, if_pos rfl, one_mul]

/-! ## The squared distance -/

/-- Two, as the programs spell it. -/
theorem two_eq : Ideal.ofBits .f32 0x40000000#32 = ((2 : ℝ) : EReal) := by
  simp [Ideal.ofBits, Ideal.ieee]
  rw [← EReal.coe_mul]; norm_num

/-- The squared distance of a row to a code, expanded. -/
def dst (x : Fin 256 → EReal) (w : Fin 1024 → Fin 256 → EReal) (k : Fin 1024) : EReal :=
  ∑ c, x c * x c + ∑ c, w k c * w k c - Ideal.ofBits .f32 0x40000000#32 * ∑ c, x c * w k c

/-- A finite sum of reals, embedded. -/
theorem coe_sum {ι : Type} [Fintype ι] (f : ι → ℝ) : ((∑ i, f i : ℝ) : EReal) = ∑ i, ((f i : ℝ) : EReal) := by
  classical
  induction (Finset.univ : Finset ι) using Finset.induction_on with
  | empty => simp
  | insert a s ha ih => rw [Finset.sum_insert ha, Finset.sum_insert ha, EReal.coe_add, ih]

/-- On finite entries the expanded distance is a real, the sum of the squared differences. -/
theorem dst_real (x : Fin 256 → ℝ) (w : Fin 1024 → Fin 256 → ℝ) (k : Fin 1024) :
    dst (fun c => (x c : EReal)) (fun k c => (w k c : EReal)) k = ((∑ c, (w k c - x c) * (w k c - x c) : ℝ) : EReal) := by
  unfold dst
  rw [two_eq]
  simp only [← EReal.coe_mul, ← coe_sum, ← EReal.coe_add, ← EReal.coe_sub]
  congr 1
  rw [Finset.mul_sum, ← Finset.sum_add_distrib, ← Finset.sum_sub_distrib]
  exact Finset.sum_congr rfl fun c _ => by ring

/-- The same with the differences taken over the extended reals. -/
theorem dst_eq_sum_sq (x : Fin 256 → ℝ) (w : Fin 1024 → Fin 256 → ℝ) (k : Fin 1024) :
    ∑ c, (((w k c : ℝ) : EReal) - ((x c : ℝ) : EReal)) * (((w k c : ℝ) : EReal) - ((x c : ℝ) : EReal))
      = dst (fun c => (x c : EReal)) (fun k c => (w k c : EReal)) k := by
  rw [dst_real]
  simp only [← EReal.coe_mul, ← coe_sum, ← EReal.coe_sub]

/-! ## Scalings -/

/-- The loss of a real sum: five quarters of it over the number of entries is the mean plus a quarter of the mean. -/
theorem loss_real (s : ℝ) :
    Ideal.div (Ideal.ofBits .f32 0x3FA00000#32 * (s : EReal)) (Ideal.ofBits .f32 0x4A800000#32)
      = Ideal.div (s : EReal) (Ideal.ofBits .f32 0x4A800000#32)
        + Ideal.ofBits .f32 0x3E800000#32 * Ideal.div (s : EReal) (Ideal.ofBits .f32 0x4A800000#32) := by
  have h1 : Ideal.ofBits .f32 0x3FA00000#32 = ((1.25 : ℝ) : EReal) := by
    simp [Ideal.ofBits, Ideal.ieee]
    rw [← EReal.coe_mul]; norm_num
  have h2 : Ideal.ofBits .f32 0x4A800000#32 = ((4194304 : ℝ) : EReal) := by
    simp [Ideal.ofBits, Ideal.ieee]
    rw [← EReal.coe_mul]; norm_num
  have h3 : Ideal.ofBits .f32 0x3E800000#32 = ((0.25 : ℝ) : EReal) := by
    simp [Ideal.ofBits, Ideal.ieee]
    rw [← EReal.coe_mul]; norm_num
  have h0 : ((4194304 : ℝ) : EReal) ≠ 0 := by
    rw [Ne, EReal.coe_eq_zero]; norm_num
  rw [h1, h2, h3]
  simp only [Ideal.div, if_neg h0, ← EReal.coe_inv, ← EReal.coe_mul, ← EReal.coe_add]
  congr 1
  ring

/-- A share of the rows: dividing by 16384 is scaling by its reciprocal. -/
theorem share_eq (x : EReal) :
    Ideal.div x (Ideal.ofBits .f32 0x46800000#32) = x * Ideal.ofBits .f32 0x38800000#32 := by
  have h1 : Ideal.ofBits .f32 0x46800000#32 = ((16384 : ℝ) : EReal) := by
    simp [Ideal.ofBits, Ideal.ieee]
    rw [← EReal.coe_mul]; norm_num
  have h2 : Ideal.ofBits .f32 0x38800000#32 = (((16384 : ℝ)⁻¹ : ℝ) : EReal) := by
    simp [Ideal.ofBits, Ideal.ieee]
    rw [← EReal.coe_mul]; norm_num
  have h0 : ((16384 : ℝ) : EReal) ≠ 0 := by
    rw [Ne, EReal.coe_eq_zero]; norm_num
  rw [h1, h2]
  simp only [Ideal.div, if_neg h0, ← EReal.coe_inv]

end Cert.Proof

end
-- ==== Proof.Spec.lean ====
module

public import proofs.«01_k».proof.Proof.Math

/-!
The five results in closed form, of the activations `z` (batch, channel, row, column) and the codebook `w`
(code, channel), and their sums regrouped.
-/

@[expose] public section

set_option maxRecDepth 16384

noncomputable section

namespace Cert.Proof

open Idealize.ShloMosaic

/-- The activations. -/
abbrev ZVec := (⟨4, ![16, 256, 32, 32]⟩ : Shape).Idx → EReal

/-- The codebook. -/
abbrev WVec := (⟨2, ![1024, 256]⟩ : Shape).Idx → EReal

/-- Row `r` of the activations: the 256 channels at one batch entry and position. -/
def X (z : ZVec) (r : Fin 16384) (c : Fin 256) : EReal :=
  z (ix4 ⟨r.val / 1024, by omega⟩ c ⟨r.val / 32 % 32, by omega⟩ ⟨r.val % 32, by omega⟩)

/-- Code `k`. -/
def W (w : WVec) (k : Fin 1024) (c : Fin 256) : EReal := w (ix2 k c)

/-- The distance of row `r` to code `k`. -/
def D (z : ZVec) (w : WVec) (r : Fin 16384) (k : Fin 1024) : EReal := dst (X z r) (W w) k

/-- The nearest code of row `r`, the first of several. -/
def N (z : ZVec) (w : WVec) (r : Fin 16384) : Fin 1024 := first (D z w r)

/-- The row of a batch entry and a position within it. -/
def row (b : Fin 16) (p : Fin 1024) : Fin 16384 := ⟨b.val * 1024 + p.val, by omega⟩

/-- The row of a batch entry, a row and a column. -/
def cell (a : Fin 16) (c d : Fin 32) : Fin 16384 := ⟨a.val * 1024 + c.val * 32 + d.val, by omega⟩

/-- The channels of the row of a batch entry and a position. -/
theorem X_row (z : ZVec) (b : Fin 16) (p : Fin 1024) (c : Fin 256) :
    X z (row b p) c = z (ix4 b c ⟨p.val / 32, by omega⟩ ⟨p.val % 32, by omega⟩) := by
  unfold X row
  congr 2 <;> ext <;> simp only <;> omega

/-- The channels of the row of a batch entry, a row and a column. -/
theorem X_cell (z : ZVec) (a : Fin 16) (e d : Fin 32) (c : Fin 256) : X z (cell a e d) c = z (ix4 a c e d) := by
  unfold X cell
  congr 2 <;> ext <;> simp only <;> omega

/-- A sum over the rows, by batch entries and positions. -/
theorem sum_row (f : Fin 16384 → EReal) : ∑ r, f r = ∑ b, ∑ p, f (row b p) :=
  Fin.sum_univ_tiles 16 1024 rfl f

/-- A sum over the rows, by batch entries, rows and columns. -/
theorem sum_cell (f : Fin 16384 → EReal) : ∑ r, f r = ∑ a, ∑ e, ∑ d, f (cell a e d) := by
  rw [sum_row]
  refine Finset.sum_congr rfl fun a _ => ?_
  rw [Fin.sum_univ_tiles 32 32 rfl fun p : Fin 1024 => f (row a p)]
  refine Finset.sum_congr rfl fun e _ => Finset.sum_congr rfl fun d _ => congrArg f (Fin.ext ?_)
  show a.val * 1024 + (e.val * 32 + d.val) = a.val * 1024 + e.val * 32 + d.val
  omega

/-- The quantized activations: at each position the channels of the nearest code. -/
def zqOf (z : ZVec) (w : WVec) (a : Fin 16) (b : Fin 256) (c d : Fin 32) : EReal := w (ix2 (N z w (cell a c d)) b)

/-- The sum over the rows of the least distance. -/
def total (z : ZVec) (w : WVec) : EReal := ∑ r, D z w r (N z w r)

/-- The loss: five quarters of that sum over the number of entries. -/
def lossOf (z : ZVec) (w : WVec) : EReal :=
  Ideal.div (Ideal.ofBits .f32 0x3FA00000#32 * total z w) (Ideal.ofBits .f32 0x4A800000#32)

/-- How often code `k` is nearest. -/
def C (z : ZVec) (w : WVec) (k : Fin 1024) : EReal := ∑ r, if k = N z w r then 1 else 0

/-- The perplexity of the shares. -/
def perpOf (z : ZVec) (w : WVec) : EReal :=
  Ideal.exp (-∑ k, C z w k * Ideal.ofBits .f32 0x38800000#32
    * Ideal.log (C z w k * Ideal.ofBits .f32 0x38800000#32 + Ideal.ofBits .f32 0x2EDBE6FF#32))

/-- The mean distance over the rows and the codes. -/
def meanOf (z : ZVec) (w : WVec) : EReal := Ideal.div (∑ r, ∑ k, D z w r k) (Ideal.ofBits .f32 0x4B800000#32)

/-- A family without infinities is a family of reals. -/
theorem lift_real {ι : Type} (f : ι → EReal) (h : ∀ i, f i ≠ ⊤ ∧ f i ≠ ⊥) : ∃ g : ι → ℝ, f = fun i => (g i : EReal) :=
  ⟨fun i => (f i).toReal, funext fun i => (EReal.coe_toReal (h i).1 (h i).2).symm⟩

/-- On finite inputs the distance is the sum of the squared differences. -/
theorem D_eq_sum_sq (z : ZVec) (w : WVec) (hz : ∀ i, z i ≠ ⊤ ∧ z i ≠ ⊥) (hw : ∀ i, w i ≠ ⊤ ∧ w i ≠ ⊥) (r : Fin 16384)
    (k : Fin 1024) : ∑ c, (W w k c - X z r c) * (W w k c - X z r c) = D z w r k := by
  obtain ⟨z', rfl⟩ := lift_real z hz
  obtain ⟨w', rfl⟩ := lift_real w hw
  exact dst_eq_sum_sq
    (fun c => z' (ix4 ⟨r.val / 1024, by omega⟩ c ⟨r.val / 32 % 32, by omega⟩ ⟨r.val % 32, by omega⟩))
    (fun k c => w' (ix2 k c)) k

/-- On finite inputs the sum of the least distances is real. -/
theorem total_real (z : ZVec) (w : WVec) (hz : ∀ i, z i ≠ ⊤ ∧ z i ≠ ⊥) (hw : ∀ i, w i ≠ ⊤ ∧ w i ≠ ⊥) :
    ∃ s : ℝ, total z w = (s : EReal) := by
  obtain ⟨z', rfl⟩ := lift_real z hz
  obtain ⟨w', rfl⟩ := lift_real w hw
  have h : ∀ r k, ∃ s : ℝ, D (fun i => (z' i : EReal)) (fun i => (w' i : EReal)) r k = (s : EReal) := fun r k =>
    ⟨_, dst_real
      (fun c => z' (ix4 ⟨r.val / 1024, by omega⟩ c ⟨r.val / 32 % 32, by omega⟩ ⟨r.val % 32, by omega⟩))
      (fun k c => w' (ix2 k c)) k⟩
  choose g hg using h
  refine ⟨∑ r, g r (N (fun i => (z' i : EReal)) (fun i => (w' i : EReal)) r), ?_⟩
  rw [coe_sum]
  exact Finset.sum_congr rfl fun r _ => hg _ _

end Cert.Proof

end
-- ==== Proof.RefVal.lean ====
module

public import proofs.«01_k».proof.Proof.RefRun
public import proofs.«01_k».proof.Proof.Spec
public import Idealize.ShloMosaic.Lib.Routing.OpsSet
public import Idealize.ShloMosaic.Lib.Routing.OpsPair
public import Idealize.ShloMosaic.Lib.Pointwise

/-!
The reference's five results read at an index, as the closed forms.
-/

@[expose] public section

set_option maxRecDepth 16384

noncomputable section

namespace Cert.Proof.Ref

open Cert.ReferenceIdeal Cert.ReferenceIdeal.Gen
open Idealize.ShloMosaic Idealize.ShloMosaic.TcCoe Idealize.SL.Sem

/-- The distance matrix at an entry. -/
theorem dist_apply (z : FVec Ideal S16x256x32x32 .f32) (w : FVec Ideal S1024x256 .f32) (r : Fin 16384) (k : Fin 1024) :
    dist z w (ix2 r k) = D z w r k := by
  pointwise [dist, rows]
  rfl

/-- The reducer keeps the lexicographically smaller pair. -/
theorem reducer_lex (a b : EReal × BitVec 32) :
    (Lex a b → reducer_argmin_f32_i32 (F := Ideal) a b = a) ∧ (¬ Lex a b → reducer_argmin_f32_i32 (F := Ideal) a b = b) := by
  obtain ⟨a1, a2⟩ := a
  obtain ⟨b1, b2⟩ := b
  have e1 : ∀ p : Prop, [Decidable p] → ∀ q : Prop, [Decidable q] →
      IntOp.ori (BitVec.ofBool (decide p)) (BitVec.ofBool (decide q)) = BitVec.ofBool (decide (p ∨ q)) := by
    intro p _ q _
    by_cases hp : p <;> by_cases hq : q <;> simp [hp, hq, IntOp.ori]
  have e2 : ∀ p : Prop, [Decidable p] → ∀ q : Prop, [Decidable q] →
      IntOp.andi (BitVec.ofBool (decide p)) (BitVec.ofBool (decide q)) = BitVec.ofBool (decide (p ∧ q)) := by
    intro p _ q _
    by_cases hp : p <;> by_cases hq : q <;> simp [hp, hq, IntOp.andi]
  have e3 : ∀ p : Prop, [Decidable p] → ∀ {α : Type} (x y : α),
      Scalar.select (BitVec.ofBool (decide p)) x y = if p then x else y := by
    intro p _ α x y
    by_cases hp : p <;> simp [hp, Scalar.select]
  have c1 : FloatOps.cmpf (F := Ideal) (φ := .f32) .olt a1 b1 = BitVec.ofBool (decide (a1 < b1)) := rfl
  have c2 : FloatOps.cmpf (F := Ideal) (φ := .f32) .une a1 a1 = BitVec.ofBool (decide False) := by
    show BitVec.ofBool (decide (a1 ≠ a1)) = _
    simp
  have c3 : FloatOps.cmpf (F := Ideal) (φ := .f32) .oeq a1 b1 = BitVec.ofBool (decide (a1 = b1)) := rfl
  have key : reducer_argmin_f32_i32 (F := Ideal) (a1, a2) (b1, b2)
      = (if a1 < b1 ∨ False then a1 else b1, if (a1 < b1 ∨ False) ∨ a1 = b1 ∧ a2.toInt < b2.toInt then a2 else b2) := by
    unfold reducer_argmin_f32_i32
    simp only [c1, c2, c3, WordCmp.cmpi_slt_eq, e1, e2, e3]
  rw [key]
  unfold Lex
  simp only [or_false]
  constructor
  · rintro (h | ⟨h, h'⟩)
    · rw [if_pos h, if_pos (.inl h)]
    · change a1 = b1 at h
      subst h
      rw [ite_self, if_pos (.inr ⟨rfl, h'⟩)]
  · intro h
    rw [if_neg h, if_neg fun q => h (.inl q)]

/-- The pairs folded at `j` are those at the indices that drop to `j`. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- Entry (row, code) reduces to its row. -/
theorem drop_row (a : Fin 16384) (k : Fin 1024) :
    (reducesTo_S16384x1024_S16384_d1.drop (ix2 a k) 0).val = a.val :=
  reducesTo_S16384x1024_S16384_d1.drop_apply_val_of_eq (ix2 a k) 0 0

/-- The reference's arg-min at `j` is the start or one of the pairs folded there, and none of these is below it. -/
theorem argmin_spec {s t u : Shape} {axes : List (Fin s.rank)} (x : s.Idx → EReal) (y : s.Idx → BitVec 32)
    (ix : u.Idx → EReal) (iy : u.Idx → BitVec 32) (h : s.ReducesTo axes t) (hu : 0 < u.numel) (j : t.Idx) :
    (Host.argReduce (F := Ideal) (φ := .f32) (reducer_argmin_f32_i32 (F := Ideal)) x y ix iy h hu j
        = (ix (Shape.Idx.first hu), iy (Shape.Idx.first hu))
      ∨ ∃ i, h.drop i = j ∧ Host.argReduce (F := Ideal) (φ := .f32) (reducer_argmin_f32_i32 (F := Ideal)) x y ix iy h hu j
        = (x i, y i))
      ∧ ∀ i, h.drop i = j →
        ¬ Lex (x i, y i) (Host.argReduce (F := Ideal) (φ := .f32) (reducer_argmin_f32_i32 (F := Ideal)) x y ix iy h hu j) := by
  rw [Ideal.argReduce_eq_reduce2, Host.reduce2_eq_foldl_fiber]
  have hl := foldl_lex (reducer_argmin_f32_i32 (F := Ideal)) reducer_lex (Host.argReduceFiber x y h j)
    (ix (Shape.Idx.first hu), iy (Shape.Idx.first hu))
  refine ⟨?_, fun i hi => hl.2 _ (List.mem_cons_of_mem _ ((mem_fiber x y h j _).2 ⟨i, hi, rfl⟩))⟩
  rcases List.mem_cons.1 hl.1 with e | e
  · exact .inl e
  · exact .inr ((mem_fiber x y h j _).1 e)

/-- The value the arg-min starts from. -/
theorem start_top : Ideal.ofBits .f32 0x7F800000#32 = ⊤ := by simp [Ideal.ofBits, Ideal.ieee]

/-- Two row entries reduce to the same row. -/
theorem drop_eq (r : Fin 16384) (k : Fin 1024) : reducesTo_S16384x1024_S16384_d1.drop (ix2 r k) = ix1 r := by
  funext b
  match b with
  | ⟨0, _⟩ => exact Fin.ext (drop_row r k)

/-- So where the pairs folded at `j` are the values of a family with their indices, the word found is that of the first
    least index. -/
theorem argmin_word {s t u : Shape} {axes : List (Fin s.rank)} (x : s.Idx → EReal) (y : s.Idx → BitVec 32)
    (ix : u.Idx → EReal) (iy : u.Idx → BitVec 32) (h : s.ReducesTo axes t) (hu : 0 < u.numel) (j : t.Idx)
    (d : Fin 1024 → EReal) (e : Fin 1024 → s.Idx) (hix : ∀ i, ix i = ⊤) (hiy : ∀ i, iy i = 0#32)
    (he : ∀ k, h.drop (e k) = j ∧ x (e k) = d k ∧ y (e k) = BitVec.ofNat 32 k.val)
    (hj : ∀ i, h.drop i = j → ∃ k, i = e k) (n : t.Idx → BitVec 32)
    (hn : n = fun j => (Host.argReduce (F := Ideal) (φ := .f32) (reducer_argmin_f32_i32 (F := Ideal)) x y ix iy h hu j).2) :
    n j = BitVec.ofNat 32 (first d).val := by
  subst hn
  have hs := argmin_spec x y ix iy h hu j
  refine lex_least_eq d _ ?_ fun k => ?_
  · rcases hs.1 with q | ⟨i, hi, q⟩
    · exact .inl (q.trans (Prod.ext (hix _) (hiy _)))
    · obtain ⟨k, rfl⟩ := hj i hi
      exact .inr ⟨k, q.trans (Prod.ext (he k).2.1 (he k).2.2)⟩
  · rw [← (he k).2.1, ← (he k).2.2]
    exact hs.2 _ (he k).1

/-- The index word of an entry is its code. -/
theorem iota_apply (r : Fin 16384) (k : Fin 1024) : iotaInDim S16384x1024 32 1 (ix2 r k) = BitVec.ofNat 32 k.val := rfl

/-- An entry that reduces to a row is one of the row's. -/
theorem of_drop_eq (r : Fin 16384) (i : S16384x1024.Idx) (h : reducesTo_S16384x1024_S16384_d1.drop i = ix1 r) :
    ∃ k, i = ix2 r k := by
  obtain ⟨a, k, rfl⟩ : ∃ a k, i = ix2 a k := ⟨_, _, eq_ix2 i⟩
  rw [drop_eq] at h
  exact ⟨k, by rw [(ix1_inj a r).1 h]⟩

/-- The nearest code of a row, as a word. -/
theorem near_apply (d : FVec Ideal S16384x1024 .f32) (r : Fin 16384) :
    near d (ix1 r) = BitVec.ofNat 32 (first fun k => d (ix2 r k)).val :=
  argmin_word d (iotaInDim S16384x1024 32 1) (constant (F := Ideal) S_ .f32 0x7F800000#32) (constantI S_ 32 0#32)
    reducesTo_S16384x1024_S16384_d1 h_S_ (ix1 r) (fun k => d (ix2 r k)) (fun k => ix2 r k) (fun _ => start_top)
    (fun _ => rfl) (fun k => ⟨drop_eq r k, rfl, iota_apply r k⟩) (of_drop_eq r) (near d) rfl

/-! ## The one-hot matrix -/

/-- Update `a` lands at entry `(r, k)` exactly when its two index words, read signed, are `r` and `k`. -/
theorem lands (idx : IVec S16384x2 32) (a r : Fin 16384) (k : Fin 1024) :
    scatter_S16384x1024_S16384x2_S16384_n_01_01_1.resultIdx? (ix1 a) idx = some (ix2 r k)
      ↔ (idx (ix2 a 0)).toInt = r.val ∧ (idx (ix2 a 1)).toInt = k.val := by
  have hm : ∀ q : Fin 2, q ∈ scatter_S16384x1024_S16384x2_S16384_n_01_01_1.scatterDimsToOperandDims := fun q => by
    show q ∈ ([0, 1] : List (Fin 2))
    fin_cases q <;> simp
  have hwin : ∀ q : Fin 2, scatter_S16384x1024_S16384x2_S16384_n_01_01_1.window (ix1 a) q = 0 := fun q => by
    unfold ScatterDims.window
    refine dif_neg fun h => (of_decide_eq_true (List.mem_filter.1 h).2) ?_
    show q ∈ ([0, 1] : List (Fin 2))
    fin_cases q <;> simp
  have hsi : ∀ q : Fin 2, scatter_S16384x1024_S16384x2_S16384_n_01_01_1.siIdx (ix1 a)
      ⟨scatter_S16384x1024_S16384x2_S16384_n_01_01_1.scatterDimsToOperandDims.idxOf q, List.idxOf_lt_length_iff.2 (hm q)⟩
        = ix2 a q := fun q => by
    funext b
    apply Fin.ext
    match b with
    | ⟨0, _⟩ =>
      unfold ScatterDims.siIdx
      rw [dif_neg (by show ¬ (0 : ℕ) = 1; decide)]
      unfold ScatterDims.siCoord
      simp only [Fin.val_cast]
      exact congrArg (fun t => ((ix1 a : S16384.Idx) t).val) (Subsingleton.elim (α := Fin 1) _ 0)
    | ⟨1, _⟩ =>
      unfold ScatterDims.siIdx
      rw [dif_pos (by rfl)]
      show List.idxOf q ([0, 1] : List (Fin 2)) = q.val
      fin_cases q <;> rfl
  have hstart : ∀ q : Fin 2, scatter_S16384x1024_S16384x2_S16384_n_01_01_1.start (ix1 a) idx q = (idx (ix2 a q)).toInt :=
    fun q => by
      unfold ScatterDims.start
      rw [dif_pos (hm q), hsi]
  have e := Routing.resultIdx?_ix2 scatter_S16384x1024_S16384x2_S16384_n_01_01_1 (ix1 a) idx r k
  have e' : (ValueIdx.ix2 r k : S16384x1024.Idx) = ix2 r k := by
    funext b
    match b with
    | ⟨0, _⟩ => rfl
    | ⟨1, _⟩ => rfl
  rw [hstart, hstart, hwin, hwin, e'] at e
  simpa using e

/-- The first index word of a row is the row. -/
theorem pairs_zero (n : IVec S16384 32) (r : Fin 16384) : (pairs n (ix2 r 0)).toInt = r.val := by
  have hr : (BitVec.ofNat 32 r.val).toNat = r.val := by
    rw [BitVec.toNat_ofNat]; exact Nat.mod_eq_of_lt (by omega)
  have e : pairs n (ix2 r 0) = BitVec.ofNat 32 r.val := by
    refine Eq.trans ?_ (Routing.wrap_of_lt (BitVec.ofNat 32 r.val) (IntOp.addi (BitVec.ofNat 32 r.val) 16384#32) (by rw [hr]; omega))
    pointwise [pairs, wrap, col]
  rw [e, BitVec.toInt_eq_toNat_of_lt (by rw [hr]; omega), hr]

/-- The second index word of a row is its nearest code. -/
theorem pairs_one (n : IVec S16384 32) (r : Fin 16384) (k : Fin 1024) (h : n (ix1 r) = BitVec.ofNat 32 k.val) :
    (pairs n (ix2 r 1)).toInt = k.val := by
  have hk : (BitVec.ofNat 32 k.val).toNat = k.val := by
    rw [BitVec.toNat_ofNat]; exact Nat.mod_eq_of_lt (by omega)
  have e : pairs n (ix2 r 1) = BitVec.ofNat 32 k.val := by
    refine Eq.trans ?_ (Routing.wrap_of_lt (BitVec.ofNat 32 k.val) (IntOp.addi (BitVec.ofNat 32 k.val) 1024#32) (by rw [hk]; omega))
    rw [← h]
    pointwise [pairs, wrap, col]
  rw [e, BitVec.toInt_eq_toNat_of_lt (by rw [hk]; omega), hk]

/-- The one-hot matrix at an entry. -/
theorem hot_apply (n : IVec S16384 32) (f : Fin 16384 → Fin 1024) (h : ∀ r, n (ix1 r) = BitVec.ofNat 32 (f r).val)
    (r : Fin 16384) (k : Fin 1024) : hot n (ix2 r k) = if k = f r then 1 else 0 := by
  have hl : ∀ j : S16384.Idx, scatter_S16384x1024_S16384x2_S16384_n_01_01_1.resultIdx? j (pairs n) = some (ix2 r k)
      ↔ j = ix1 r ∧ k = f r := by
    intro j
    obtain ⟨a, rfl⟩ : ∃ a, j = ix1 a := ⟨_, eq_ix1 j⟩
    rw [lands, pairs_zero, pairs_one n a (f a) (h a), ix1_inj]
    constructor
    · rintro ⟨h1, h2⟩
      have : a = r := Fin.ext (by omega)
      subst this
      exact ⟨rfl, Fin.ext (by omega)⟩
    · rintro ⟨rfl, rfl⟩
      exact ⟨rfl, rfl⟩
  have h1 : ∀ j : S16384.Idx, broadcastInDim S16384 ![] bcast_S_S16384 (constant (F := Ideal) S_ .f32 0x3F800000#32) j
      = (1 : EReal) := fun j => by
    show Ideal.ofBits .f32 0x3F800000#32 = 1
    simp [Ideal.ofBits, Ideal.ieee]
    rw [← EReal.coe_mul]; norm_num
  unfold hot
  by_cases e : k = f r
  · rw [if_pos e]
    exact Routing.scatter_set_hit _ _ _ _ _ _ (fun j _ => h1 j) (ix1 r) ((hl _).2 ⟨rfl, e⟩)
  · rw [if_neg e, Routing.scatter_set_miss _ _ _ _ _ fun j hj => e ((hl j).1 hj).2]
    show Ideal.ofBits .f32 0x00000000#32 = 0
    simp [Ideal.ofBits, Ideal.ieee]

/-! ## The results -/

variable (z : FVec Ideal S16x256x32x32 .f32) (w : FVec Ideal S1024x256 .f32)

/-- The nearest code of a row of the inputs, as a word. -/
theorem near_dist (r : Fin 16384) : near (dist z w) (ix1 r) = BitVec.ofNat 32 (N z w r).val := by
  rw [near_apply]
  exact congrArg (fun d => BitVec.ofNat 32 (first d).val) (funext fun k => dist_apply z w r k)

/-- The one-hot matrix of the inputs. -/
theorem hot_dist (r : Fin 16384) (k : Fin 1024) : hot (near (dist z w)) (ix2 r k) = if k = N z w r then 1 else 0 :=
  hot_apply _ _ (near_dist z w) r k

/-- The index column. -/
theorem col_val (r : Fin 16384) (u : Fin 1) : col (near (dist z w)) (ix2 r u) = BitVec.ofNat 32 (N z w r).val := by
  have e : ∀ n : IVec S16384 32, col n (ix2 r u) = n (ix1 r) := fun n => by pointwise [col]
  rw [e, near_dist]

/-- The selected codes. -/
theorem sel_val (a : Fin 16) (c d : Fin 32) (b : Fin 256) :
    sel (hot (near (dist z w))) w (ix4 a c d b) = w (ix2 (N z w (cell a c d)) b) := by
  have e : ∀ h : FVec Ideal S16384x1024 .f32, sel h w (ix4 a c d b) = ∑ x, h (ix2 (cell a c d) x) * w (ix2 x b) := fun h => by
    pointwise [sel]
    rfl
  rw [e]
  simp only [hot_dist]
  exact sum_hot (N z w (cell a c d)) fun x => w (ix2 x b)

/-- The quantized activations. -/
theorem outQ_val (a : Fin 16) (b : Fin 256) (c d : Fin 32) :
    outQ (sel (hot (near (dist z w))) w) (ix4 a b c d) = zqOf z w a b c d := by
  have e : ∀ q : FVec Ideal S16x32x32x256 .f32, outQ q (ix4 a b c d) = q (ix4 a c d b) := fun q => by pointwise [outQ]
  rw [e, sel_val]
  rfl

/-- The perplexity. -/
theorem perp_val : perp (share (hot (near (dist z w)))) ix0 = perpOf z w := by
  have e : ∀ h : FVec Ideal S16384x1024 .f32, perp (share h) ix0
      = Ideal.exp (-∑ x, Ideal.div (∑ r, h (ix2 r x)) (Ideal.ofBits .f32 0x46800000#32)
        * Ideal.log (Ideal.div (∑ r, h (ix2 r x)) (Ideal.ofBits .f32 0x46800000#32) + Ideal.ofBits .f32 0x2EDBE6FF#32)) :=
    fun h => by pointwise [perp, share]
  rw [e]
  simp only [hot_dist, share_eq]
  rfl

/-- The mean distance. -/
theorem mean_val : meanDist (dist z w) ix0 = meanOf z w := by
  have e : ∀ h : FVec Ideal S16384x1024 .f32, meanDist h ix0
      = Ideal.div (∑ r, ∑ k, h (ix2 r k)) (Ideal.ofBits .f32 0x4B800000#32) := fun h => by
    pointwise [meanDist]
  rw [e]
  simp only [dist_apply]
  rfl

/-- On finite inputs the sum of the squared differences is the sum of the least distances. -/
theorem sq_val (hz : ∀ i, z i ≠ ⊤ ∧ z i ≠ ⊥) (hw : ∀ i, w i ≠ ⊤ ∧ w i ≠ ⊥) :
    mse (sel (hot (near (dist z w))) w) z ix0 = Ideal.div (total z w) (Ideal.ofBits .f32 0x4A800000#32) := by
  have e : ∀ q : FVec Ideal S16x32x32x256 .f32, mse q z ix0
      = Ideal.div (∑ a, ∑ c, ∑ d, ∑ b, (q (ix4 a c d b) - z (ix4 a b c d)) * (q (ix4 a c d b) - z (ix4 a b c d)))
        (Ideal.ofBits .f32 0x4A800000#32) := fun q => by
    refine congrArg (fun x => Ideal.div x (Ideal.ofBits .f32 0x4A800000#32)) ?_
    refine (Ideal.hostReduceAdd_total reducesTo_S16x32x32x256_S_d0_1_2_3 (fun b => b.elim0) _ _ ix0).trans ?_
    have ht : ∀ a c d b, transpose S16x32x32x256 [0, 2, 3, 1] z transposes_S16x256x32x32_S16x32x32x256_0_2_3_1 (ix4 a c d b)
        = z (ix4 a b c d) := fun a c d b => by pointwise
    have h0 : (constant (F := Ideal) S_ .f32 0x00000000#32) (Shape.Idx.first h_S_) = 0 := Ideal.ofBits_zero_f32
    rw [h0, zero_add, sum_idx4]
    refine Finset.sum_congr rfl fun a _ => Finset.sum_congr rfl fun c _ => Finset.sum_congr rfl fun d _ =>
      Finset.sum_congr rfl fun b _ => ?_
    rw [← ht]
    rfl
  rw [e]
  simp only [sel_val]
  unfold total
  rw [sum_cell]
  refine congrArg (fun x => Ideal.div x (Ideal.ofBits .f32 0x4A800000#32)) ?_
  refine Finset.sum_congr rfl fun a _ => Finset.sum_congr rfl fun c _ => Finset.sum_congr rfl fun d _ => ?_
  rw [← D_eq_sum_sq z w hz hw]
  exact Finset.sum_congr rfl fun b _ => by rw [X_cell]; rfl

/-- On finite inputs the loss. -/
theorem loss_val (hz : ∀ i, z i ≠ ⊤ ∧ z i ≠ ⊥) (hw : ∀ i, w i ≠ ⊤ ∧ w i ≠ ⊥) :
    loss (sel (hot (near (dist z w))) w) z ix0 = lossOf z w := by
  have e : ∀ q : FVec Ideal S16x32x32x256 .f32, loss q z ix0
      = mse q z ix0 + Ideal.ofBits .f32 0x3E800000#32 * mse q z ix0 := fun q => rfl
  rw [e, sq_val z w hz hw]
  obtain ⟨s, hs⟩ := total_real z w hz hw
  unfold lossOf
  rw [hs]
  exact (loss_real s).symm

end Cert.Proof.Ref
end
-- ==== Proof.KerPay.lean ====
module

public import proofs.«01_k».proof.Proof.Gen.KernelIdeal.Frame
public import proofs.«01_k».proof.Proof.Spec
public import Idealize.ShloMosaic.Lib.Pipeline.ValueKit
public import Idealize.ShloMosaic.Lib.Pointwise

/-!
What the kernel computes at one grid point from its two blocks, at an index, in the terms of the closed forms.
-/

@[expose] public section

set_option maxRecDepth 16384

noncomputable section

namespace Cert.Proof.Ker

open Cert.KernelIdeal Cert.KernelIdeal.Gen
open Idealize.ShloMosaic Idealize.ShloMosaic.TcCoe Idealize.SL.Sem

section
variable (w : FVec Ideal S1024x256 .f32) (z : FVec Ideal S1x256x1024 .f32)

/-- The distances of the block's position `p` to the codes. -/
def dd (p : Fin 1024) : Fin 1024 → EReal := dst (fun c => z (ix3 0 c p)) (W w)

/-- The distance tile. -/
theorem pay10 (k p : Fin 1024) : k0_pay10 (F := Ideal) w z (ix2 k p) = dd w z p k := by
  have e : ∑ c, z (ix3 0 c p) * w (ix2 k c) = ∑ c, w (ix2 k c) * z (ix3 0 c p) :=
    Finset.sum_congr rfl fun c _ => mul_comm _ _
  unfold dd dst W
  rw [e]
  pointwise [k0_pay10]

/-- The least distance of a position. -/
theorem pay11 (p : Fin 1024) : k0_pay11 (F := Ideal) w z (ix1 p) = dd w z p (first (dd w z p)) := by
  refine Eq.trans ?_ (fold_min_eq (dd w z p))
  have e : k0_pay11 (F := Ideal) w z (ix1 p)
      = Finset.fold min (Ideal.ofBits .f32 0x7F800000#32) (fun x => k0_pay10 (F := Ideal) w z (ix2 x p)) Finset.univ := by
    pointwise [k0_pay11]
  have ht : Ideal.ofBits .f32 0x7F800000#32 = ⊤ := by simp [Ideal.ofBits, Ideal.ieee]
  rw [e, ht]
  simp only [pay10]

/-- The nearest code of a position. -/
theorem pay12 (p : Fin 1024) : k0_pay12 (F := Ideal) w z (ix1 p) = BitVec.ofNat 32 (first (dd w z p)).val := by
  refine Eq.trans ?_ (fold_minsi_eq (dd w z p) (k0_pay11 (F := Ideal) w z (ix1 p)) (pay11 w z p))
  have e : k0_pay12 (F := Ideal) w z (ix1 p)
      = Finset.fold IntOp.minsi 2147483647#32 (fun x : Fin 1024 => if k0_pay10 (F := Ideal) w z (ix2 x p)
          = k0_pay11 (F := Ideal) w z (ix1 p) then BitVec.ofNat 32 x.val else 1024#32) Finset.univ := by
    pointwise [k0_pay12]
  rw [e]
  simp only [pay10]

/-- The one-hot tile. -/
theorem pay13 (k p : Fin 1024) : k0_pay13 (F := Ideal) w z (ix2 k p) = if k = first (dd w z p) then 1 else 0 := by
  have e : k0_pay13 (F := Ideal) w z (ix2 k p)
      = FloatOps.sitofp .f32 (BitVec.setWidth 32 (IntOp.cmpi .eq (BitVec.ofNat 32 k.val) (k0_pay12 (F := Ideal) w z (ix1 p)))) := by
    pointwise [k0_pay13]
  rw [e, pay12]
  generalize first (dd w z p) = q
  have hq : BitVec.ofNat 32 k.val = BitVec.ofNat 32 q.val ↔ k = q := by
    constructor
    · intro h
      have := congrArg BitVec.toInt h
      rw [toInt_index, toInt_index] at this
      exact Fin.ext (by omega)
    · rintro rfl; rfl
  rw [WordCmp.cmpi_eq_eq]
  by_cases h : k = q
  · rw [if_pos h, decide_eq_true (hq.2 h)]
    show (((BitVec.setWidth 32 (BitVec.ofBool true)).toInt : ℝ) : EReal) = 1
    have : (BitVec.setWidth 32 (BitVec.ofBool true)).toInt = 1 := by decide
    rw [this]; norm_num
  · rw [if_neg h, decide_eq_false fun e => h (hq.1 e)]
    show (((BitVec.setWidth 32 (BitVec.ofBool false)).toInt : ℝ) : EReal) = 0
    have : (BitVec.setWidth 32 (BitVec.ofBool false)).toInt = 0 := by decide
    rw [this]; norm_num

/-- The selected codes of the block. -/
theorem pay14 (c : Fin 256) (p : Fin 1024) :
    k0_pay14 (F := Ideal) w z (ix3 0 c p) = w (ix2 (first (dd w z p)) c) := by
  have e : k0_pay14 (F := Ideal) w z (ix3 0 c p) = ∑ x, w (ix2 x c) * k0_pay13 (F := Ideal) w z (ix2 x p) := by
    pointwise [k0_pay14]
  rw [e]
  simp only [pay13]
  refine Eq.trans (Finset.sum_congr rfl fun x _ => mul_comm _ _) ?_
  exact sum_hot (first (dd w z p)) fun x => w (ix2 x c)

/-- The block of indices. -/
theorem pay1 (p : Fin 1024) : k0_pay1 (k0_pay12 (F := Ideal) w z) (ix3 0 0 p) = BitVec.ofNat 32 (first (dd w z p)).val := by
  refine Eq.trans ?_ (pay12 w z p)
  generalize k0_pay12 (F := Ideal) w z = v
  pointwise [k0_pay1]

/-- The counts' step. -/
theorem pay2 (v : FVec Ideal S1024x1 .f32) (k : Fin 1024) :
    k0_pay2 (F := Ideal) (k0_pay13 w z) v (ix2 k 0) = v (ix2 k 0) + ∑ p, if k = first (dd w z p) then 1 else 0 := by
  have e : ∀ h : FVec Ideal S1024x1024 .f32, k0_pay2 (F := Ideal) h v (ix2 k 0) = v (ix2 k 0) + ∑ p, h (ix2 k p) := fun h => by
    pointwise [k0_pay2]
  rw [e]
  simp only [pay13]

/-- The step of the sum of the least distances. -/
theorem pay3 (v : FVec Ideal S1x128 .f32) (l : Fin 128) :
    k0_pay3 (F := Ideal) (k0_pay11 w z) v (ix2 0 l) = v (ix2 0 l) + ∑ p, dd w z p (first (dd w z p)) := by
  have e : ∀ h : FVec Ideal S1024 .f32, k0_pay3 (F := Ideal) h v (ix2 0 l) = v (ix2 0 l) + ∑ p, h (ix1 p) := fun h => by
    pointwise [k0_pay3]
  rw [e]
  simp only [pay11]

/-- The step of the sum of all distances. -/
theorem pay4 (v : FVec Ideal S1x128 .f32) (l : Fin 128) :
    k0_pay4 (F := Ideal) (k0_pay10 w z) v (ix2 0 l) = v (ix2 0 l) + ∑ p, ∑ k, dd w z p k := by
  have e : ∀ h : FVec Ideal S1024x1024 .f32, k0_pay4 (F := Ideal) h v (ix2 0 l) = v (ix2 0 l) + ∑ k, ∑ p, h (ix2 k p) :=
    fun h => by pointwise [k0_pay4]
  rw [e, Finset.sum_comm]
  simp only [pay10]

end

/-- The loss block. -/
theorem pay5 (v : FVec Ideal S1x1 .f32) (j : S8x128.Idx) :
    k0_pay5 (F := Ideal) v j = Ideal.div (Ideal.ofBits .f32 0x3FA00000#32 * v (ix2 0 0)) (Ideal.ofBits .f32 0x4A800000#32) := by
  pointwise [k0_pay5]

/-- The mean distance block. -/
theorem pay6 (v : FVec Ideal S1x1 .f32) (j : S8x128.Idx) :
    k0_pay6 (F := Ideal) v j = Ideal.div (v (ix2 0 0)) (Ideal.ofBits .f32 0x4B800000#32) := by
  pointwise [k0_pay6]

/-- The perplexity block. -/
theorem pay7 (v : FVec Ideal S1024x1 .f32) (j : S8x128.Idx) :
    k0_pay7 (F := Ideal) v j = Ideal.exp (-∑ k, v (ix2 k 0) * Ideal.ofBits .f32 0x38800000#32
      * Ideal.log (v (ix2 k 0) * Ideal.ofBits .f32 0x38800000#32 + Ideal.ofBits .f32 0x2EDBE6FF#32)) := by
  refine Eq.trans (b := Ideal.exp (0 - ∑ k, ∑ _x : Fin 1, v (ix2 k 0) * Ideal.ofBits .f32 0x38800000#32
      * Ideal.log (v (ix2 k 0) * Ideal.ofBits .f32 0x38800000#32 + Ideal.ofBits .f32 0x2EDBE6FF#32))) ?_ ?_
  · pointwise [k0_pay7]
    try rfl
  · rw [zero_sub]
    simp only [Finset.univ_unique, Finset.sum_singleton]

/-- The counts start at zero. -/
theorem pay8 (j : S1024x1.Idx) : k0_pay8 (F := Ideal) j = 0 := by pointwise [k0_pay8]

/-- The sums start at zero. -/
theorem pay9 (j : S2x128.Idx) : k0_pay9 (F := Ideal) j = 0 := by pointwise [k0_pay9]

/-! ## The blocks -/

variable (m : (ℓ : Loc nD τ sig) → Buf (Elt Ideal) ℓ) (c : Dev nD)

/-- The activations. -/
abbrev zz : FVec Ideal S16x256x32x32 .f32 := m ((c.tc : Thread nD τ).loc main_arg0)

/-- The codebook. -/
abbrev ww : FVec Ideal S1024x256 .f32 := m ((c.tc : Thread nD τ).loc main_arg1)

/-- The windows' index maps. -/
theorem idx : ∀ t : Fin cfg0.N, win0_0.index t = ![t.val, 0, 0] ∧ win0_1.index t = ![0, 0] ∧ win0_2.index t = ![t.val, 0, 0]
    ∧ win0_3.index t = ![t.val, 0, 0] ∧ win0_4.index t = ![0, 0] ∧ win0_5.index t = ![0, 0] ∧ win0_6.index t = ![0, 0] :=
  (by decide +kernel : ∀ t : Fin grid0.N, _)

/-- A grid point is a batch entry. -/
def bt (t : Fin cfg0.N) : Fin 16 := ⟨t.val, lt_of_lt_of_eq t.isLt N_0⟩

/-- The codebook's block is the codebook. -/
theorem wblk (t : Fin cfg0.N) : (iblk m c 1 t : FVec Ideal S1024x256 .f32) = ww m c := by
  blk_ext! [iblk, V, idx t]

/-- The kernel's first operand: the activations with their rows and columns joined. -/
theorem entry : V m c main_v0 = shapeCast S16x256x1024 (zz m c) shapeCasts_S16x256x32x32_S16x256x1024 := by
  show StableHlo.after ([hostOps0].flatten) (fun b => m (c, b)) (Proc.devRef .tc main_v0) = _
  rw [List.flatten_cons, List.flatten_nil, List.append_nil]
  after_results
  try rfl

/-- The activations' block of a point: the channels of the point's batch entry. -/
theorem zblk (t : Fin cfg0.N) (ch : Fin 256) (p : Fin 1024) :
    (iblk m c 0 t : FVec Ideal S1x256x1024 .f32) (ix3 0 ch p) = X (zz m c) (row (bt t) p) ch := by
  rw [X_row]
  have e : (iblk m c 0 t : FVec Ideal S1x256x1024 .f32) (ix3 0 ch p)
      = shapeCast S16x256x1024 (zz m c) shapeCasts_S16x256x32x32_S16x256x1024 (ix3 (bt t) ch p) := by
    rw [← entry]
    blk_ext [iblk, idx t, bt]
  rw [e]
  pointwise

/-- So a position's distances are its row's. -/
theorem dd_blk (t : Fin cfg0.N) (p : Fin 1024) :
    dd (iblk m c 1 t) (iblk m c 0 t) p = D (zz m c) (ww m c) (row (bt t) p) := by
  funext k
  have e : (fun ch => (iblk m c 0 t : FVec Ideal S1x256x1024 .f32) (ix3 0 ch p)) = X (zz m c) (row (bt t) p) :=
    funext fun ch => zblk m c t ch p
  unfold dd D
  rw [wblk, e]

end Cert.Proof.Ker
end
-- ==== Proof.KerAcc.lean ====
module

public import proofs.«01_k».proof.Proof.KerPay
public import Idealize.ShloMosaic.Lib.Pipeline.ReadBack

/-!
The counts and the two sums that the kernel carries from point to point, step by step, and what each point writes.
-/

@[expose] public section

set_option maxRecDepth 16384

noncomputable section

namespace Cert.Proof.Ker

open Cert.KernelIdeal Cert.KernelIdeal.Gen
open Idealize.ShloMosaic Idealize.ShloMosaic.TcCoe Idealize.SL.Sem

variable (m : (ℓ : Loc nD τ sig) → Buf (Elt Ideal) ℓ) (c : Dev nD)

/-- What block `b` adds to the sum of the least distances. -/
abbrev least (b : Fin 16) : EReal :=
  ∑ p : Fin 1024, D (zz m c) (ww m c) (row b p) (N (zz m c) (ww m c) (row b p))

/-- What block `b` adds to the sum of all distances. -/
abbrev every (b : Fin 16) : EReal :=
  ∑ p : Fin 1024, ∑ k, D (zz m c) (ww m c) (row b p) k

/-- How often block `b` picks codebook row `k`. -/
abbrev picks (b : Fin 16) (k : Fin 1024) : EReal :=
  ∑ p : Fin 1024, if k = N (zz m c) (ww m c) (row b p) then (1 : EReal) else 0

/-- The least distance of a point's block is at the nearest codebook row of that row of the array. -/
theorem first_blk (t : Fin cfg0.N) (p : Fin 1024) :
    first (dd (iblk m c 1 t) (iblk m c 0 t) p) = N (zz m c) (ww m c) (row (bt t) p) := by
  rw [dd_blk]; try rfl

/-- The carried counts as point `n` leaves them. -/
abbrev cnt (n : Nat) (h : n < cfg0.N) : S1024x1.Idx → EReal := (outsAt0 m c n h).2.2.2.2.2.1

/-- The two carried sums as point `n` leaves them. -/
abbrev acc (n : Nat) (h : n < cfg0.N) : S2x128.Idx → EReal := (outsAt0 m c n h).2.2.2.2.2.2

/-- The point before `t` is a point of the grid. -/
theorem prev (t : Fin cfg0.N) : t.val - 1 < cfg0.N := Nat.lt_of_le_of_lt (Nat.sub_le _ _) t.isLt

/-- Entry `l` of row 0 of the carried sums, as an entry of the stored row. -/
theorem at0 (l : Fin 128) :
    (ix2 0 l : S2x128.Idx) = (Rect.unit ![0, 0] ![1, 128] inb_S2x128_S1x128_0_0).emb (ix2 0 l : S1x128.Idx) := by
  funext a; apply Fin.ext; rw [ValueKit.rect_emb_unit_val]; fin_cases a
  · rfl
  · exact (Nat.zero_add _).symm

/-- Entry `l` of row 1 of the carried sums, as an entry of the stored row. -/
theorem at1 (l : Fin 128) :
    (ix2 1 l : S2x128.Idx) = (Rect.unit ![1, 0] ![1, 128] inb_S2x128_S1x128_1_0).emb (ix2 0 l : S1x128.Idx) := by
  funext a; apply Fin.ext; rw [ValueKit.rect_emb_unit_val]; fin_cases a
  · rfl
  · exact (Nat.zero_add _).symm

/-- Row 0 of the carried sums lies outside the stored row 1. -/
theorem out1 (l : Fin 128) :
    (ix2 0 l : S2x128.Idx) ∉ (Rect.unit ![1, 0] ![1, 128] inb_S2x128_S1x128_1_0 : Rect S2x128).set := by
  intro h
  obtain ⟨j, hj, e⟩ := (LoadRect.mem_set _).mp h 0
  change 0 = 1 + 1 * j at e
  omega

/-- A middle point adds its block's distances to row 1 of the carried sums. -/
theorem acc1_B (t : Fin cfg0.N) (h0 : ¬t.val % 16 = 0) (h1 : ¬t.val % 16 = 15) (l : Fin 128) :
    acc m c t.val t.isLt (ix2 1 l) = acc m c (t.val - 1) (prev t) (ix2 1 l) + every m c (bt t) := by
  unfold acc
  conv_lhs => rw [outsAt0_B m c t h0 h1, at1]
  frame_out
  rw [View.canon_cons_emb, pay4]
  simp only [View.ld, read_unread_whole, dd_blk]
  rw [at1 l]; rfl

/-- A middle point adds its block's least distances to row 0 of the carried sums. -/
theorem acc0_B (t : Fin cfg0.N) (h0 : ¬t.val % 16 = 0) (h1 : ¬t.val % 16 = 15) (l : Fin 128) :
    acc m c t.val t.isLt (ix2 0 l) = acc m c (t.val - 1) (prev t) (ix2 0 l) + least m c (bt t) := by
  unfold acc
  conv_lhs => rw [outsAt0_B m c t h0 h1]
  frame_out
  rw [View.canon_cons_of_not_mem]
  rotate_left
  · exact out1 l
  conv_lhs => rw [at0]
  rw [View.canon_cons_emb, pay3]
  simp only [View.ld, read_unread_whole, dd_blk, first_blk]
  rw [at0 l]; rfl

/-- The last point adds its block's distances to row 1 of the carried sums. -/
theorem acc1_C (t : Fin cfg0.N) (h0 : ¬t.val % 16 = 0) (h1 : t.val % 16 = 15) (l : Fin 128) :
    acc m c t.val t.isLt (ix2 1 l) = acc m c (t.val - 1) (prev t) (ix2 1 l) + every m c (bt t) := by
  unfold acc
  conv_lhs => rw [outsAt0_C m c t h0 h1, at1]
  frame_out
  rw [View.canon_cons_emb, pay4]
  simp only [View.ld, read_unread_whole, dd_blk]
  rw [at1 l]; rfl

/-- The last point adds its block's least distances to row 0 of the carried sums. -/
theorem acc0_C (t : Fin cfg0.N) (h0 : ¬t.val % 16 = 0) (h1 : t.val % 16 = 15) (l : Fin 128) :
    acc m c t.val t.isLt (ix2 0 l) = acc m c (t.val - 1) (prev t) (ix2 0 l) + least m c (bt t) := by
  unfold acc
  conv_lhs => rw [outsAt0_C m c t h0 h1]
  frame_out
  rw [View.canon_cons_of_not_mem]
  rotate_left
  · exact out1 l
  conv_lhs => rw [at0]
  rw [View.canon_cons_emb, pay3]
  simp only [View.ld, read_unread_whole, dd_blk, first_blk]
  rw [at0 l]; rfl

/-- The first point starts row 1 of the carried sums at its own block's distances. -/
theorem acc1_A (t : Fin cfg0.N) (h0 : t.val % 16 = 0) (h1 : ¬t.val % 16 = 15) (l : Fin 128) :
    acc m c t.val t.isLt (ix2 1 l) = 0 + every m c (bt t) := by
  unfold acc
  conv_lhs => rw [outsAt0_A m c t h0 h1, at1]
  frame_out
  rw [View.canon_cons_emb, pay4, View.readCov_skip (h := by decide +kernel)]
  rw [View.readCov_fill]
  · simp only [View.ld, pay9, dd_blk]
  · intro a; fin_cases a <;> rfl

/-- The first point starts row 0 of the carried sums at its own block's least distances. -/
theorem acc0_A (t : Fin cfg0.N) (h0 : t.val % 16 = 0) (h1 : ¬t.val % 16 = 15) (l : Fin 128) :
    acc m c t.val t.isLt (ix2 0 l) = 0 + least m c (bt t) := by
  unfold acc
  conv_lhs => rw [outsAt0_A m c t h0 h1]
  frame_out
  rw [View.canon_cons_of_not_mem]
  rotate_left
  · exact out1 l
  conv_lhs => rw [at0]
  rw [View.canon_cons_emb, pay3, View.readCov_fill]
  · simp only [View.ld, pay9, dd_blk, first_blk]; rfl
  · intro a; fin_cases a <;> rfl

/-- The first point starts the counts at its own block's picks. -/
theorem cnt_A (t : Fin cfg0.N) (h0 : t.val % 16 = 0) (h1 : ¬t.val % 16 = 15) (k : Fin 1024) :
    cnt m c t.val t.isLt (ix2 k 0) = 0 + picks m c (bt t) k := by
  unfold cnt
  conv_lhs => rw [outsAt0_A m c t h0 h1]
  frame_out
  rw [pay2]
  simp only [pay8, first_blk]; try rfl

/-- A middle point adds its block's picks to the counts. -/
theorem cnt_B (t : Fin cfg0.N) (h0 : ¬t.val % 16 = 0) (h1 : ¬t.val % 16 = 15) (k : Fin 1024) :
    cnt m c t.val t.isLt (ix2 k 0) = cnt m c (t.val - 1) (prev t) (ix2 k 0) + picks m c (bt t) k := by
  unfold cnt
  conv_lhs => rw [outsAt0_B m c t h0 h1]
  frame_out
  rw [pay2, read_unread_whole]
  simp only [first_blk]; try rfl

/-- The last point adds its block's picks to the counts. -/
theorem cnt_C (t : Fin cfg0.N) (h0 : ¬t.val % 16 = 0) (h1 : t.val % 16 = 15) (k : Fin 1024) :
    cnt m c t.val t.isLt (ix2 k 0) = cnt m c (t.val - 1) (prev t) (ix2 k 0) + picks m c (bt t) k := by
  unfold cnt
  conv_lhs => rw [outsAt0_C m c t h0 h1]
  frame_out
  rw [pay2, read_unread_whole]
  simp only [first_blk]; try rfl

/-- The last point writes the loss from row 0 of the sums it leaves. -/
theorem loss_C (t : Fin cfg0.N) (h0 : ¬t.val % 16 = 0) (h1 : t.val % 16 = 15) (j : S8x128.Idx) :
    (outsAt0 m c t.val t.isLt).2.2.1 j =
      Ideal.div (Ideal.ofBits .f32 0x3FA00000#32 * acc m c t.val t.isLt (ix2 0 0)) (Ideal.ofBits .f32 0x4A800000#32) := by
  rw [acc0_C m c t h0 h1]
  unfold acc
  conv_lhs => rw [outsAt0_C m c t h0 h1]
  frame_out
  rw [pay5, View.readCov_eq_canon']
  beta_reduce
  refine congrArg (fun x => Ideal.div (Ideal.ofBits .f32 0x3FA00000#32 * x) (Ideal.ofBits .f32 0x4A800000#32)) ?_
  canon_tiles x h
  · exfalso; change 0 = 1 + (x 0).val at h0; omega
  · have e : x = ix2 0 0 := by
      funext a; apply Fin.ext; fin_cases a
      · change (x 0).val = 0; omega
      · exact h1.symm
    rw [e, pay3]
    simp only [View.ld, read_unread_whole, dd_blk, first_blk]
    rw [at0 0]; rfl

/-- The last point writes the mean distance from row 1 of the sums it leaves. -/
theorem mean_C (t : Fin cfg0.N) (h0 : ¬t.val % 16 = 0) (h1 : t.val % 16 = 15) (j : S8x128.Idx) :
    (outsAt0 m c t.val t.isLt).2.2.2.2.1 j =
      Ideal.div (acc m c t.val t.isLt (ix2 1 0)) (Ideal.ofBits .f32 0x4B800000#32) := by
  rw [acc1_C m c t h0 h1]
  unfold acc
  conv_lhs => rw [outsAt0_C m c t h0 h1]
  frame_out
  rw [pay6, View.readCov_eq_canon']
  beta_reduce
  refine congrArg (fun x => Ideal.div x (Ideal.ofBits .f32 0x4B800000#32)) ?_
  canon_tiles x h
  · have e : x = ix2 0 0 := by
      funext a; apply Fin.ext; fin_cases a
      · change (x 0).val = 0; omega
      · exact h1.symm
    rw [e, pay4]
    simp only [View.ld, read_unread_whole, dd_blk]
    rw [at1 0]; rfl
  · exfalso; change 1 = (x 0).val at h0; omega

/-- The last point writes the perplexity from the counts it leaves. -/
theorem perp_C (t : Fin cfg0.N) (h0 : ¬t.val % 16 = 0) (h1 : t.val % 16 = 15) (j : S8x128.Idx) :
    (outsAt0 m c t.val t.isLt).2.2.2.1 j =
      Ideal.exp (-∑ k : Fin 1024, cnt m c t.val t.isLt (ix2 k 0) * Ideal.ofBits .f32 0x38800000#32 *
        Ideal.log (cnt m c t.val t.isLt (ix2 k 0) * Ideal.ofBits .f32 0x38800000#32 + Ideal.ofBits .f32 0x2EDBE6FF#32)) := by
  unfold cnt
  rw [outsAt0_C m c t h0 h1]
  frame_out
  exact pay7 _ _

/-- Every point writes, at position `p`, the codebook row nearest to that position. -/
theorem zq_at (t : Fin cfg0.N) (ch p : Fin _) :
    (outsAt0 m c t.val t.isLt).1 (ix3 0 ch p) = ww m c (ix2 (N (zz m c) (ww m c) (row (bt t) p)) ch) := by
  by_cases h0 : t.val % 16 = 0
  · rw [outsAt0_A m c t h0 (by omega)]; frame_out; rw [pay14, first_blk, wblk]
  · by_cases h1 : t.val % 16 = 15
    · rw [outsAt0_C m c t h0 h1]; frame_out; rw [pay14, first_blk, wblk]
    · rw [outsAt0_B m c t h0 h1]; frame_out; rw [pay14, first_blk, wblk]

/-- Every point writes, at position `p`, the index of the codebook row nearest to that position. -/
theorem idx_at (t : Fin cfg0.N) (p : Fin 1024) :
    (outsAt0 m c t.val t.isLt).2.1 (ix3 0 0 p) = BitVec.ofNat 32 (N (zz m c) (ww m c) (row (bt t) p)).val := by
  by_cases h0 : t.val % 16 = 0
  · rw [outsAt0_A m c t h0 (by omega)]; frame_out; rw [pay1, first_blk]
  · by_cases h1 : t.val % 16 = 15
    · rw [outsAt0_C m c t h0 h1]; frame_out; rw [pay1, first_blk]
    · rw [outsAt0_B m c t h0 h1]; frame_out; rw [pay1, first_blk]

end Cert.Proof.Ker

end
-- ==== Proof.KerVal.lean ====
module

public import proofs.«01_k».proof.Proof.KerAcc

/-!
The kernel's result arrays in closed form.
-/

@[expose] public section

set_option maxRecDepth 16384

noncomputable section

namespace Cert.Proof.Ker

open Cert.KernelIdeal Cert.KernelIdeal.Gen
open Idealize.ShloMosaic Idealize.ShloMosaic.TcCoe Idealize.SL.Sem

variable (m : (ℓ : Loc nD τ sig) → Buf (Elt Ideal) ℓ) (c : Dev nD)

/-- A sum over the grid's points is a sum over the batch entries. -/
theorem sum_bt (f : Fin 16 → EReal) : ∑ t : Fin cfg0.N, f (bt t) = ∑ b, f b :=
  Fintype.sum_equiv (finCongr N_0) _ _ fun t => congrArg f (Fin.ext rfl)

/-- After the last point row 0 of the carried sums holds the sum of all least distances. -/
theorem acc0_last (t : Fin cfg0.N) (ht : t.val + 1 = cfg0.N) (l : Fin 128) :
    acc m c t.val t.isLt (ix2 0 l) = total (zz m c) (ww m c) := by
  have h := Pipeline.eq_sum_fin_of_reset_step_apply_last (fun n h (l : Fin 128) => acc m c n h (ix2 0 l)) 16 (fun _ => 0)
    (fun t _ => least m c (bt t)) (fun t h l => acc0_A m c t h (by omega) l)
    (fun t h l => by
      by_cases h1 : t.val % 16 = 15
      · exact acc0_C m c t h h1 l
      · exact acc0_B m c t h h1 l)
    (le_of_eq N_0) t ht l
  rw [h, zero_add, sum_bt, total, sum_row]

/-- After the last point row 1 of the carried sums holds the sum of all distances. -/
theorem acc1_last (t : Fin cfg0.N) (ht : t.val + 1 = cfg0.N) (l : Fin 128) :
    acc m c t.val t.isLt (ix2 1 l) = ∑ r, ∑ k, D (zz m c) (ww m c) r k := by
  have h := Pipeline.eq_sum_fin_of_reset_step_apply_last (fun n h (l : Fin 128) => acc m c n h (ix2 1 l)) 16 (fun _ => 0)
    (fun t _ => every m c (bt t)) (fun t h l => acc1_A m c t h (by omega) l)
    (fun t h l => by
      by_cases h1 : t.val % 16 = 15
      · exact acc1_C m c t h h1 l
      · exact acc1_B m c t h h1 l)
    (le_of_eq N_0) t ht l
  rw [h, zero_add, sum_bt, sum_row]

/-- After the last point the counts are those of the whole batch. -/
theorem cnt_last (t : Fin cfg0.N) (ht : t.val + 1 = cfg0.N) (k : Fin 1024) :
    cnt m c t.val t.isLt (ix2 k 0) = C (zz m c) (ww m c) k := by
  have h := Pipeline.eq_sum_fin_of_reset_step_apply_last (fun n h (k : Fin 1024) => cnt m c n h (ix2 k 0)) 16 (fun _ => 0)
    (fun t k => picks m c (bt t) k) (fun t h k => cnt_A m c t h (by omega) k)
    (fun t h k => by
      by_cases h1 : t.val % 16 = 15
      · exact cnt_C m c t h h1 k
      · exact cnt_B m c t h h1 k)
    (le_of_eq N_0) t ht k
  rw [h, zero_add, sum_bt fun b => picks m c b k, C, sum_row]

/-- The last point. -/
theorem last_N : t0_15.val + 1 = cfg0.N := N_0.symm

/-- The array of losses holds the loss everywhere. -/
theorem arr4 : (dats m 0 c).arrAt 4 (cfgs 0).N = fun _ => lossOf (zz m c) (ww m c) := by
  refine (dats m 0 c).arrAt_eq_of_after_last 4 t0_15 (by decide +kernel) _ fun j => ?_
  blk_simp
  rw [after0_4]
  rw [loss_C m c t0_15 (by decide) (by decide), acc0_last m c t0_15 last_N]
  rfl

/-- The array of perplexities holds the perplexity everywhere. -/
theorem arr5 : (dats m 0 c).arrAt 5 (cfgs 0).N = fun _ => perpOf (zz m c) (ww m c) := by
  refine (dats m 0 c).arrAt_eq_of_after_last 5 t0_15 (by decide +kernel) _ fun j => ?_
  blk_simp
  rw [after0_5]
  rw [perp_C m c t0_15 (by decide) (by decide)]
  simp only [cnt_last m c t0_15 last_N]
  rfl

/-- The array of mean distances holds the mean distance everywhere. -/
theorem arr6 : (dats m 0 c).arrAt 6 (cfgs 0).N = fun _ => meanOf (zz m c) (ww m c) := by
  refine (dats m 0 c).arrAt_eq_of_after_last 6 t0_15 (by decide +kernel) _ fun j => ?_
  blk_simp
  rw [after0_6]
  rw [mean_C m c t0_15 (by decide) (by decide), acc1_last m c t0_15 last_N]
  rfl

/-- The array of quantized activations, rows and columns joined. -/
theorem arr2 : (dats m 0 c).arrAt 2 (cfgs 0).N
    = fun i : S16x256x1024.Idx => ww m c (ix2 (N (zz m c) (ww m c) (row (i 0) (i 2))) (i 1)) := by
  refine (dats m 0 c).arrAt_eq_of_covers 2 _ (by decide +kernel) fun t hf y => ?_
  blk_simp
  rw [after0_2]
  have e0 : ((win0_2.blk t).view.emb y) 0 = bt t := Fin.ext (by
    blk_simp [idx t]; rfl)
  have e1 : ((win0_2.blk t).view.emb y) 1 = y 1 := Fin.ext (by
    blk_simp [idx t])
  have e2 : ((win0_2.blk t).view.emb y) 2 = y 2 := Fin.ext (by
    blk_simp [idx t])
  rw [e0, e1, e2]
  have e : y = (ix3 0 (y 1) (y 2) : S1x256x1024.Idx) := by
    funext a; apply Fin.ext; fin_cases a
    · have : (y 0).val < 1 := (y 0).isLt
      change (y 0).val = 0; omega
    · rfl
    · rfl
  exact (congrArg _ e).trans (zq_at m c t (y 1) (y 2))

/-- The array of indices. -/
theorem arr3 : (dats m 0 c).arrAt 3 (cfgs 0).N
    = fun i : S16x1x1024.Idx => BitVec.ofNat 32 (N (zz m c) (ww m c) (row (i 0) (i 2))).val := by
  refine (dats m 0 c).arrAt_eq_of_covers 3 _ (by decide +kernel) fun t hf y => ?_
  blk_simp
  rw [after0_3]
  have e0 : ((win0_3.blk t).view.emb y) 0 = bt t := Fin.ext (by
    blk_simp [idx t]; rfl)
  have e2 : ((win0_3.blk t).view.emb y) 2 = y 2 := Fin.ext (by
    blk_simp [idx t])
  rw [e0, e2]
  have e : y = (ix3 0 0 (y 2) : S1x1x1024.Idx) := by
    funext a; apply Fin.ext; fin_cases a
    · have : (y 0).val < 1 := (y 0).isLt
      change (y 0).val = 0; omega
    · have : (y 1).val < 1 := (y 1).isLt
      change (y 1).val = 0; omega
    · rfl
  exact (congrArg _ e).trans (idx_at m c t (y 2))
end Cert.Proof.Ker

end
-- ==== Proof.KerRun.lean ====
module

public import proofs.«01_k».proof.Proof.KerVal

/-!
The run of the kernel over the extended reals: its five results in closed form.
-/

@[expose] public section

set_option maxRecDepth 16384

noncomputable section

namespace Cert.Proof.Ker

open Cert.KernelIdeal Cert.KernelIdeal.Gen
open Idealize.ShloMosaic Idealize.ShloMosaic.TcCoe Idealize.SL.Sem

variable (m : (ℓ : Loc nD τ sig) → Buf (Elt Ideal) ℓ) (g : Dev nD → PrngReg)

/-- What the region leaves in a buffer. -/
abbrev left (c : Dev nD) (b : Ref sig .tc) : Buf (Elt Ideal) ((c.tc : Thread nD τ).loc b) :=
  Pipeline.withArrays (cfgs 0).spec c (V0 m c) (fun w => (dats m 0 c).arrAt w (cfgs 0).N) (Proc.devRef .tc b)

/-- The host lines after the region, at one buffer. -/
theorem tail (c : Dev nD) (b : Ref sig .tc) : Pipeline.afterTail₀ cfgs (dats m) 0 (V0 m) [hostOps1] c b
    = StableHlo.after hostOps1 (Pipeline.withArrays (cfgs 0).spec c (V0 m c) fun w => (dats m 0 c).arrAt w (cfgs 0).N) (Proc.devRef .tc b) := by
  unfold Pipeline.afterTail₀
  rw [List.flatten_cons, List.flatten_nil, List.append_nil]

/-- The region leaves the quantized activations in its first result. -/
theorem left0 (c : Dev nD) : left m c main_v1_0
    = fun i : S16x256x1024.Idx => ww m c (ix2 (N (zz m c) (ww m c) (row (i 0) (i 2))) (i 1)) :=
  (Pipeline.withArrays_arr (cfgs 0).spec launch0.win.arr_inj c _ _ 2).trans (arr2 m c)

/-- The region leaves the indices in its second result. -/
theorem left1 (c : Dev nD) : left m c main_v1_1
    = fun i : S16x1x1024.Idx => BitVec.ofNat 32 (N (zz m c) (ww m c) (row (i 0) (i 2))).val :=
  (Pipeline.withArrays_arr (cfgs 0).spec launch0.win.arr_inj c _ _ 3).trans (arr3 m c)

/-- The region leaves the loss everywhere in its third result. -/
theorem left2 (c : Dev nD) : left m c main_v1_2 = fun _ => lossOf (zz m c) (ww m c) :=
  (Pipeline.withArrays_arr (cfgs 0).spec launch0.win.arr_inj c _ _ 4).trans (arr4 m c)

/-- The region leaves the perplexity everywhere in its fourth result. -/
theorem left3 (c : Dev nD) : left m c main_v1_3 = fun _ => perpOf (zz m c) (ww m c) :=
  (Pipeline.withArrays_arr (cfgs 0).spec launch0.win.arr_inj c _ _ 5).trans (arr5 m c)

/-- The region leaves the mean distance everywhere in its fifth result. -/
theorem left4 (c : Dev nD) : left m c main_v1_4 = fun _ => meanOf (zz m c) (ww m c) :=
  (Pipeline.withArrays_arr (cfgs 0).spec launch0.win.arr_inj c _ _ 6).trans (arr6 m c)

/-- The first result is the quantized activations. -/
theorem res2 (c : Dev nD) : Pipeline.afterTail₀ cfgs (dats m) 0 (V0 m) [hostOps1] c main_v2 = fun i : S16x256x32x32.Idx =>
    zqOf (zz m c) (ww m c) (i 0) (i 1) (i 2) (i 3) := by
  rw [tail]
  after_results
  funext i
  show shapeCast S16x256x32x32 (left m c main_v1_0 : FVec Ideal S16x256x1024 .f32) shapeCasts_S16x256x1024_S16x256x32x32 i = _
  rw [left0]
  idx_vars i
  pointwise
  rw [zqOf, show row i0 ⟨i2.val * 32 + i3.val, by omega⟩ = cell i0 i2 i3 from Fin.ext (Nat.add_assoc _ _ _).symm]

/-- A batch of words as a column: entry `r` is the word of that row. -/
theorem column (f : Fin 16384 → BitVec 32) (a : IVec S16x1x1024 32) (h : a = fun i => f (row (i 0) (i 2))) :
    shapeCast S16384x1 a shapeCasts_S16x1x1024_S16384x1 = fun i => f (i 0) := by
  subst h
  funext i
  idx_vars i
  pointwise
  exact congrArg f (Fin.ext (by show i0.val / 1024 * 1024 + i0.val % 1024 = i0.val; omega))

/-- The indices as a column. -/
def idxOf (z : ZVec) (w : WVec) : IVec S16384x1 32 := fun i => BitVec.ofNat 32 (N z w (i 0)).val

/-- The corner of a constant array is the constant. -/
theorem corner (v : EReal) (a : FVec Ideal S8x128 .f32) (h : a = fun _ => v) :
    shapeCast S_ (extractStridedSlice S1x1 ![0, 0] a slices_S8x128_S1x1_0_0) shapeCasts_S1x1_S_ = fun _ => v := by
  subst h; rfl

/-- The fourth result is the column of indices. -/
theorem res7 (c : Dev nD) : Pipeline.afterTail₀ cfgs (dats m) 0 (V0 m) [hostOps1] c main_v7 = idxOf (zz m c) (ww m c) := by
  rw [tail]
  after_results
  exact column (fun r => BitVec.ofNat 32 (N (zz m c) (ww m c) r).val) (left m c main_v1_1) (left1 m c)

/-- The second result is the loss. -/
theorem res4 (c : Dev nD) : Pipeline.afterTail₀ cfgs (dats m) 0 (V0 m) [hostOps1] c main_v4 = fun _ => lossOf (zz m c) (ww m c) := by
  rw [tail]
  after_results
  exact corner (lossOf (zz m c) (ww m c)) (left m c main_v1_2) (left2 m c)

/-- The third result is the perplexity. -/
theorem res6 (c : Dev nD) : Pipeline.afterTail₀ cfgs (dats m) 0 (V0 m) [hostOps1] c main_v6 = fun _ => perpOf (zz m c) (ww m c) := by
  rw [tail]
  after_results
  exact corner (perpOf (zz m c) (ww m c)) (left m c main_v1_3) (left3 m c)

/-- The fifth result is the mean distance. -/
theorem res9 (c : Dev nD) : Pipeline.afterTail₀ cfgs (dats m) 0 (V0 m) [hostOps1] c main_v9 = fun _ => meanOf (zz m c) (ww m c) := by
  rw [tail]
  after_results
  exact corner (meanOf (zz m c) (ww m c)) (left m c main_v1_4) (left4 m c)

/-- The run of the kernel: its five results in closed form, its arguments unchanged. -/
theorem run : θ_run (defs (F := Ideal)) (onTc (τ := τ) (main (F := Ideal))) ⟨m, fun _ => 0, g⟩ (fun r => ∀ c : Dev nD,
    r.2.mem ((c.tc : Thread nD τ).loc main_v2) = (fun i : S16x256x32x32.Idx => zqOf (zz m c) (ww m c) (i 0) (i 1) (i 2) (i 3))
    ∧ r.2.mem ((c.tc : Thread nD τ).loc main_v4) = (fun _ => lossOf (zz m c) (ww m c))
    ∧ r.2.mem ((c.tc : Thread nD τ).loc main_v6) = (fun _ => perpOf (zz m c) (ww m c))
    ∧ r.2.mem ((c.tc : Thread nD τ).loc main_v7) = idxOf (zz m c) (ww m c)
    ∧ r.2.mem ((c.tc : Thread nD τ).loc main_v9) = (fun _ => meanOf (zz m c) (ww m c))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  run_from Cert.KernelIdeal.Gen.run_main m g
  · exact res2 m c
  · exact res4 m c
  · exact res6 m c
  · exact res7 m c
  · exact res9 m c
  · exact W_main_arg0 m (dats m) c

end Cert.Proof.Ker

end
-- ==== Proof.Finite.lean ====
module

public import proofs.«01_k».proof.Defs
public import proofs.«01_k».proof.Proof.Spec
public import proofs.«01_k».proof.Proof.Gen.Pre_finite
public import Idealize.ShloMosaic.Lib.ReduceAll
public import Idealize.ShloMosaic.Lib.Pointwise

@[expose] public section

set_option maxRecDepth 16384

noncomputable section

namespace Cert.Proof

open Idealize.ShloMosaic

/-- An entry whose absolute value compares below plus infinity is neither infinity. -/
theorem entry_finite (v : EReal) (h : Ideal.cmp .olt (max v (-v)) (Ideal.ofBits .f32 0x7F800000#32) = 1#1) : v ≠ ⊤ ∧ v ≠ ⊥ := by
  have e : Ideal.ofBits .f32 0x7F800000#32 = ⊤ := by simp [Ideal.ofBits, Ideal.ieee]
  rw [e] at h
  have h' : max v (-v) < ⊤ := by
    by_contra hn
    unfold Ideal.cmp at h
    simp only [hn, decide_false] at h
    exact absurd h (by decide)
  constructor <;> rintro rfl <;> simp at h'

/-- The precondition says that no entry of either argument is infinite. -/
theorem finite_of_pre (z : ZVec) (w : WVec) (h : Cert.Pre_finite.fn (F := Ideal) z w = fun _ => 1#1) :
    (∀ i, z i ≠ ⊤ ∧ z i ≠ ⊥) ∧ ∀ i, w i ≠ ⊤ ∧ w i ≠ ⊥ := by
  have h0 := congrFun h ix0
  unfold Cert.Pre_finite.fn at h0
  have : Subsingleton Cert.Pre_finite.S_.Idx := ⟨fun a b => funext fun i => i.elim0⟩
  obtain ⟨h1, h2⟩ := IntOp.andi_eq_one.mp h0
  exact ⟨fun i => entry_finite _ (Host.reduce_andi_all _ _ _ _ _ h1 i), fun i => entry_finite _ (Host.reduce_andi_all _ _ _ _ _ h2 i)⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.RefVal
public import proofs.«01_k».proof.Proof.KerRun
public import proofs.«01_k».proof.Proof.Finite
public import Idealize.ShloMosaic.Adequacy
public import Idealize.ShloMosaic.Init

@[expose] public section

noncomputable section

namespace Cert.Proof

open Idealize.ShloMosaic Idealize.SL.Sem Cert.Kernel

/-- Kernel and reference end with the same five results over the extended reals. -/
theorem algebraic : Cert.algebraic_KernelIdeal_ReferenceIdeal_pre_finite
    (hKernelIdeal := Cert.KernelIdeal.Gen.facts) (hReferenceIdeal := Cert.ReferenceIdeal.Gen.facts)
    (hPre_finite := Cert.Pre_finite.Gen.facts) := by
  intro m g m' g' hpre hag
  refine ⟨_, _, _, _, _, Ker.run m g, ?_⟩
  refine (θ_run _ _ _).mono (fun r h c => ?_) (Ref.run m' g')
  obtain ⟨a0, a1, r0, r1, r2, r3, r4⟩ := h c
  obtain ⟨e0, e1⟩ := hag c
  obtain ⟨hz, hw⟩ := finite_of_pre _ _ (hpre c)
  rw [e0, e1] at r0 r1 r2 r3 r4
  refine ⟨r0.trans ?_, r1.trans ?_, r2.trans ?_, r3.trans ?_, r4.trans ?_, a0, a1⟩
  · funext i
    have e : i = (ix4 (i 0) (i 1) (i 2) (i 3) : Cert.KernelIdeal.S16x256x32x32.Idx) := by
      funext a; fin_cases a <;> rfl
    exact (congrArg _ e).trans (Ref.outQ_val _ _ (i 0) (i 1) (i 2) (i 3))
  · funext i
    rw [show i = ix0 from funext fun a => a.elim0]
    exact Ref.loss_val _ _ hz hw
  · funext i
    rw [show i = ix0 from funext fun a => a.elim0]
    exact Ref.perp_val _ _
  · funext i
    have e : i = (ix2 (i 0) (i 1) : Cert.KernelIdeal.S16384x1.Idx) := by
      funext a; fin_cases a <;> rfl
    exact (congrArg _ e).trans (Ref.col_val _ _ (i 0) (i 1))
  · funext i
    rw [show i = ix0 from funext fun a => a.elim0]
    exact Ref.mean_val _ _

/-- All the claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, fun m g _ => Ref.frame m g, fun m g _ => Ref.frame m g, trivial, algebraic⟩

end Cert.Proof

end
